-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x64 : Shape := ⟨2, ![1024, 64]⟩
abbrev S1024x1024 : Shape := ⟨2, ![1024, 1024]⟩
abbrev S3 : Shape := ⟨1, ![3]⟩
abbrev S4 : Shape := ⟨1, ![4]⟩
abbrev S4x2 : Shape := ⟨2, ![4, 2]⟩
abbrev S16 : Shape := ⟨1, ![16]⟩
abbrev S_ : Shape := ⟨0, ![]⟩
abbrev S1 : Shape := ⟨1, ![1]⟩
abbrev S64x64 : Shape := ⟨2, ![64, 64]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .f32⟩
  | .hbm, ⟨1, _⟩ => ⟨S1024x64, .f32⟩
  | .hbm, ⟨2, _⟩ => ⟨S1024x64, .f32⟩
  | .local _ .vmem, ⟨0, _⟩ => ⟨S64x1024, .f32⟩
  | .local _ .vmem, ⟨1, _⟩ => ⟨S1024x64, .f32⟩
  | .local _ .vmem, ⟨2, _⟩ => ⟨S1024x64, .bf16⟩
  | .local _ .vmem, ⟨3, _⟩ => ⟨S1024x64, .f32⟩
  | .local _ .vmem, ⟨4, _⟩ => ⟨S1024x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_42 : BitVec 32 := 0#32
  let v83 : BitVec 1 := Scalar.cmpi .eq v19 c0_i32_42
  let c1_i32_44 : BitVec 32 := 1#32
  let c1_i32_43 : BitVec 32 := 1#32
  let v84 : BitVec 32 := Scalar.subi v19 c1_i32_43
  let v85 : BitVec 32 := Scalar.select v83 c1_i32_44 v84
  let c4_i32_45 : BitVec 32 := 4#32
  let v86 : BitVec 32 := Scalar.muli v85 c4_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v87 : BitVec 32 := Scalar.addi v86 v29
  let c1_i32_47 : BitVec 32 := 1#32
  let v88 : BitVec 32 := Scalar.muli v87 c1_i32_47
  let v89 : BitVec 32 := Scalar.addi c0_i32_48 v88
  v89.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v90 : BitVec 1 := Scalar.cmpi .sle v19 c1_i32_49
  let c2_i32_52 : BitVec 32 := 2#32
  let c2_i32 : BitVec 32 := 2#32
  let v91 : BitVec 1 := Scalar.cmpi .eq v19 c2_i32
  let c3_i32_50 : BitVec 32 := 3#32
  let c1_i32_51 : BitVec 32 := 1#32
  let v92 : BitVec 32 := Scalar.select v91 c3_i32_50 c1_i32_51
  let v93 : BitVec 32 := Scalar.select v90 c2_i32_52 v92
  let c4_i32_53 : BitVec 32 := 4#32
  let v94 : BitVec 32 := Scalar.muli v93 c4_i32_53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_55 : BitVec 32 := 1#32
  let v96 : BitVec 32 := Scalar.muli v95 c1_i32_55
  let v97 : BitVec 32 := Scalar.addi c0_i32_56 v96
  v97.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_57 : BitVec 32 := 1#32
  let v98 : BitVec 1 := Scalar.cmpi .sle v19 c1_i32_57
  let c3_i32_58 : BitVec 32 := 3#32
  let c0_i32_59 : BitVec 32 := 0#32
  let v99 : BitVec 32 := Scalar.select v98 c3_i32_58 c0_i32_59
  let c4_i32_60 : BitVec 32 := 4#32
  let v100 : BitVec 32 := Scalar.muli v99 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_62 : BitVec 32 := 1#32
  let v102 : BitVec 32 := Scalar.muli v101 c1_i32_62
  let v103 : BitVec 32 := Scalar.addi c0_i32_63 v102
  v103.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_65 : BitVec 32 := 1#32
  let v104 : BitVec 32 := Scalar.muli v55 c1_i32_65
  let v105 : BitVec 32 := Scalar.addi c0_i32_66 v104
  v105.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_68 : BitVec 32 := 1#32
  let v106 : BitVec 32 := Scalar.muli v42 c1_i32_68
  let v107 : BitVec 32 := Scalar.addi c0_i32_69 v106
  v107.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v112 : BitVec 32 := Scalar.muli v2 c64_i32
  let v113 : Index := Scalar.indexCast v112
  let c0_72 : Index := 0#32
  ![v113.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_86 : BitVec 32 := 64#32
  let v142 : BitVec 32 := Scalar.muli v2 c64_i32_86
  let v143 : Index := Scalar.indexCast v142
  let c0_87 : Index := 0#32
  ![v143.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_88 : BitVec 32 := 1#32
  let v147 : BitVec 1 := Scalar.cmpi .sle v19 c1_i32_88
  let c3_i32_89 : BitVec 32 := 3#32
  let c0_i32_90 : BitVec 32 := 0#32
  let v148 : BitVec 32 := Scalar.select v147 c3_i32_89 c0_i32_90
  ![v148.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_93 : BitVec 32 := 64#32
  let v152 : BitVec 32 := Scalar.muli v2 c64_i32_93
  let c0_i32_96 : BitVec 32 := 0#32
  ![v152.toNat, 0]
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_88 : BitVec 32 := 1#32
  let v147 : BitVec 1 := Scalar.cmpi .sle v19 c1_i32_88
  let c3_i32_89 : BitVec 32 := 3#32
  let c0_i32_90 : BitVec 32 := 0#32
  let v148 : BitVec 32 := Scalar.select v147 c3_i32_89 c0_i32_90
  let c4_i32_91 : BitVec 32 := 4#32
  let v149 : BitVec 32 := Scalar.muli v148 c4_i32_91
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v150 : BitVec 32 := Scalar.addi v149 v29
  let c1_i32_94 : BitVec 32 := 1#32
  let v153 : BitVec 32 := Scalar.muli v150 c1_i32_94
  let v154 : BitVec 32 := Scalar.addi c0_i32_95 v153
  v154.toNat
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v161 : BitVec 1 := Scalar.cmpi .sle v19 c1_i32_98
  let c2_i32_102 : BitVec 32 := 2#32
  let c2_i32_99 : BitVec 32 := 2#32
  let v162 : BitVec 1 := Scalar.cmpi .eq v19 c2_i32_99
  let c3_i32_100 : BitVec 32 := 3#32
  let c1_i32_101 : BitVec 32 := 1#32
  let v163 : BitVec 32 := Scalar.select v162 c3_i32_100 c1_i32_101
  let v164 : BitVec 32 := Scalar.select v161 c2_i32_102 v163
  ![v164.toNat]
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v161 : BitVec 1 := Scalar.cmpi .sle v19 c1_i32_98
  let c2_i32_102 : BitVec 32 := 2#32
  let c2_i32_99 : BitVec 32 := 2#32
  let v162 : BitVec 1 := Scalar.cmpi .eq v19 c2_i32_99
  let c3_i32_100 : BitVec 32 := 3#32
  let c1_i32_101 : BitVec 32 := 1#32
  let v163 : BitVec 32 := Scalar.select v162 c3_i32_100 c1_i32_101
  let v164 : BitVec 32 := Scalar.select v161 c2_i32_102 v163
  let c4_i32_103 : BitVec 32 := 4#32
  let v165 : BitVec 32 := Scalar.muli v164 c4_i32_103
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v166 : BitVec 32 := Scalar.addi v165 v29
  let c1_i32_106 : BitVec 32 := 1#32
  let v169 : BitVec 32 := Scalar.muli v166 c1_i32_106
  let v170 : BitVec 32 := Scalar.addi c0_i32_107 v169
  v170.toNat
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_110 : BitVec 32 := 0#32
  let v177 : BitVec 1 := Scalar.cmpi .eq v19 c0_i32_110
  let c1_i32_112 : BitVec 32 := 1#32
  let c1_i32_111 : BitVec 32 := 1#32
  let v178 : BitVec 32 := Scalar.subi v19 c1_i32_111
  let v179 : BitVec 32 := Scalar.select v177 c1_i32_112 v178
  ![v179.toNat]
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_110 : BitVec 32 := 0#32
  let v177 : BitVec 1 := Scalar.cmpi .eq v19 c0_i32_110
  let c1_i32_112 : BitVec 32 := 1#32
  let c1_i32_111 : BitVec 32 := 1#32
  let v178 : BitVec 32 := Scalar.subi v19 c1_i32_111
  let v179 : BitVec 32 := Scalar.select v177 c1_i32_112 v178
  let c4_i32_113 : BitVec 32 := 4#32
  let v180 : BitVec 32 := Scalar.muli v179 c4_i32_113
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v181 : BitVec 32 := Scalar.addi v180 v29
  let c1_i32_116 : BitVec 32 := 1#32
  let v184 : BitVec 32 := Scalar.muli v181 c1_i32_116
  let v185 : BitVec 32 := Scalar.addi c0_i32_117 v184
  v185.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_122 : BitVec 32 := 0#32
  ![v19.toNat, 0]
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_123 : BitVec 32 := 1#32
  let v194 : BitVec 32 := Scalar.muli v42 c1_i32_123
  let v195 : BitVec 32 := Scalar.addi c0_i32_124 v194
  v195.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_129 : BitVec 32 := 1#32
  ![v19.toNat, 1]
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_130 : BitVec 32 := 1#32
  let v204 : BitVec 32 := Scalar.muli v55 c1_i32_130
  let v205 : BitVec 32 := Scalar.addi c0_i32_131 v204
  v205.toNat
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c4_i32_137 : BitVec 32 := 4#32
  let v215 : BitVec 32 := Scalar.muli v214 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi v215 v29
  ![v216.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c4_i32_137 : BitVec 32 := 4#32
  let v215 : BitVec 32 := Scalar.muli v214 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi v215 v29
  let c64_i32_139 : BitVec 32 := 64#32
  let v218 : BitVec 32 := Scalar.muli v216 c64_i32_139
  let c0_i32_142 : BitVec 32 := 0#32
  ![v218.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c0_i32_146 : BitVec 32 := 0#32
  ![v214.toNat, 0]
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_147 : BitVec 32 := 1#32
  let v227 : BitVec 32 := Scalar.muli v42 c1_i32_147
  let v228 : BitVec 32 := Scalar.addi c0_i32_148 v227
  v228.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c1_i32_153 : BitVec 32 := 1#32
  ![v214.toNat, 1]
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_154 : BitVec 32 := 1#32
  let v237 : BitVec 32 := Scalar.muli v55 c1_i32_154
  let v238 : BitVec 32 := Scalar.addi c0_i32_155 v237
  v238.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c4_i32_137 : BitVec 32 := 4#32
  let v215 : BitVec 32 := Scalar.muli v214 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi v215 v29
  let c64_i32_158 : BitVec 32 := 64#32
  let v245 : BitVec 32 := Scalar.muli v216 c64_i32_158
  let v246 : Index := Scalar.indexCast v245
  let c0_159 : Index := 0#32
  ![v246.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_134 : BitVec 32 := 0#32
  let v212 : BitVec 1 := Scalar.cmpi .eq v19 c0_i32_134
  let c1_i32_136 : BitVec 32 := 1#32
  let c1_i32_135 : BitVec 32 := 1#32
  let v213 : BitVec 32 := Scalar.subi v19 c1_i32_135
  let v214 : BitVec 32 := Scalar.select v212 c1_i32_136 v213
  let c4_i32_137 : BitVec 32 := 4#32
  let v215 : BitVec 32 := Scalar.muli v214 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi v215 v29
  let c64_i32_167 : BitVec 32 := 64#32
  let v263 : BitVec 32 := Scalar.muli v216 c64_i32_167
  let v264 : Index := Scalar.indexCast v263
  let c0_168 : Index := 0#32
  ![v264.toNat, 0]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c4_i32_174 : BitVec 32 := 4#32
  let v272 : BitVec 32 := Scalar.muli v271 c4_i32_174
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v273 : BitVec 32 := Scalar.addi v272 v29
  ![v273.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c4_i32_174 : BitVec 32 := 4#32
  let v272 : BitVec 32 := Scalar.muli v271 c4_i32_174
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v273 : BitVec 32 := Scalar.addi v272 v29
  let c64_i32_176 : BitVec 32 := 64#32
  let v275 : BitVec 32 := Scalar.muli v273 c64_i32_176
  let c0_i32_179 : BitVec 32 := 0#32
  ![v275.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c0_i32_183 : BitVec 32 := 0#32
  ![v271.toNat, 0]
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_184 : BitVec 32 := 1#32
  let v284 : BitVec 32 := Scalar.muli v42 c1_i32_184
  let v285 : BitVec 32 := Scalar.addi c0_i32_185 v284
  v285.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c1_i32_190 : BitVec 32 := 1#32
  ![v271.toNat, 1]
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_191 : BitVec 32 := 1#32
  let v294 : BitVec 32 := Scalar.muli v55 c1_i32_191
  let v295 : BitVec 32 := Scalar.addi c0_i32_192 v294
  v295.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c4_i32_174 : BitVec 32 := 4#32
  let v272 : BitVec 32 := Scalar.muli v271 c4_i32_174
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v273 : BitVec 32 := Scalar.addi v272 v29
  let c64_i32_195 : BitVec 32 := 64#32
  let v302 : BitVec 32 := Scalar.muli v273 c64_i32_195
  let v303 : Index := Scalar.indexCast v302
  let c0_196 : Index := 0#32
  ![v303.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_169 : BitVec 32 := 1#32
  let v268 : BitVec 1 := Scalar.cmpi .sle v19 c1_i32_169
  let c2_i32_173 : BitVec 32 := 2#32
  let c2_i32_170 : BitVec 32 := 2#32
  let v269 : BitVec 1 := Scalar.cmpi .eq v19 c2_i32_170
  let c3_i32_171 : BitVec 32 := 3#32
  let c1_i32_172 : BitVec 32 := 1#32
  let v270 : BitVec 32 := Scalar.select v269 c3_i32_171 c1_i32_172
  let v271 : BitVec 32 := Scalar.select v268 c2_i32_173 v270
  let c4_i32_174 : BitVec 32 := 4#32
  let v272 : BitVec 32 := Scalar.muli v271 c4_i32_174
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v273 : BitVec 32 := Scalar.addi v272 v29
  let c64_i32_204 : BitVec 32 := 64#32
  let v320 : BitVec 32 := Scalar.muli v273 c64_i32_204
  let v321 : Index := Scalar.indexCast v320
  let c0_205 : Index := 0#32
  ![v321.toNat, 0]
def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c4_i32_209 : BitVec 32 := 4#32
  let v327 : BitVec 32 := Scalar.muli v326 c4_i32_209
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v328 : BitVec 32 := Scalar.addi v327 v29
  ![v328.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c4_i32_209 : BitVec 32 := 4#32
  let v327 : BitVec 32 := Scalar.muli v326 c4_i32_209
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v328 : BitVec 32 := Scalar.addi v327 v29
  let c64_i32_211 : BitVec 32 := 64#32
  let v330 : BitVec 32 := Scalar.muli v328 c64_i32_211
  let c0_i32_214 : BitVec 32 := 0#32
  ![v330.toNat, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c0_i32_218 : BitVec 32 := 0#32
  ![v326.toNat, 0]
def k0_dev15 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_219 : BitVec 32 := 1#32
  let v339 : BitVec 32 := Scalar.muli v42 c1_i32_219
  let v340 : BitVec 32 := Scalar.addi c0_i32_220 v339
  v340.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c1_i32_225 : BitVec 32 := 1#32
  ![v326.toNat, 1]
def k0_dev16 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_226 : BitVec 32 := 1#32
  let v349 : BitVec 32 := Scalar.muli v55 c1_i32_226
  let v350 : BitVec 32 := Scalar.addi c0_i32_227 v349
  v350.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c4_i32_209 : BitVec 32 := 4#32
  let v327 : BitVec 32 := Scalar.muli v326 c4_i32_209
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v328 : BitVec 32 := Scalar.addi v327 v29
  let c64_i32_230 : BitVec 32 := 64#32
  let v357 : BitVec 32 := Scalar.muli v328 c64_i32_230
  let v358 : Index := Scalar.indexCast v357
  let c0_231 : Index := 0#32
  ![v358.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_206 : BitVec 32 := 1#32
  let v325 : BitVec 1 := Scalar.cmpi .sle v19 c1_i32_206
  let c3_i32_207 : BitVec 32 := 3#32
  let c0_i32_208 : BitVec 32 := 0#32
  let v326 : BitVec 32 := Scalar.select v325 c3_i32_207 c0_i32_208
  let c4_i32_209 : BitVec 32 := 4#32
  let v327 : BitVec 32 := Scalar.muli v326 c4_i32_209
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v328 : BitVec 32 := Scalar.addi v327 v29
  let c64_i32_239 : BitVec 32 := 64#32
  let v375 : BitVec 32 := Scalar.muli v328 c64_i32_239
  let v376 : Index := Scalar.indexCast v375
  let c0_240 : Index := 0#32
  ![v376.toNat, 0]
def k0_off28 (d0 : Dev nD) (c0_i32_241 : BitVec 32) (c3_i32_26 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v29 c3_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v380 : BitVec 32 := Scalar.addi c0_i32_241 v66
  ![v380.toNat]
def k0_off29 (d0 : Dev nD) (c0_i32_241 : BitVec 32) (c3_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v29 c3_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v380 : BitVec 32 := Scalar.addi c0_i32_241 v66
  let c64_i32_243 : BitVec 32 := 64#32
  let v382 : BitVec 32 := Scalar.muli v380 c64_i32_243
  let c0_i32_246 : BitVec 32 := 0#32
  ![v382.toNat, 0]
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_251 : BitVec 32 := 1#32
  let v391 : BitVec 32 := Scalar.muli v42 c1_i32_251
  let v392 : BitVec 32 := Scalar.addi c0_i32_252 v391
  v392.toNat
def k0_off30 (d0 : Dev nD) (c0_i32_241 : BitVec 32) (c3_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v29 c3_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v380 : BitVec 32 := Scalar.addi c0_i32_241 v66
  let c64_i32_255 : BitVec 32 := 64#32
  let v399 : BitVec 32 := Scalar.muli v380 c64_i32_255
  let v400 : Index := Scalar.indexCast v399
  let c0_256 : Index := 0#32
  ![v400.toNat, 0]
def k0_off31 (d0 : Dev nD) (c0_i32_241 : BitVec 32) (c3_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v29 c3_i32_26
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v380 : BitVec 32 := Scalar.addi c0_i32_241 v66
  let c64_i32_264 : BitVec 32 := 64#32
  let v417 : BitVec 32 := Scalar.muli v380 c64_i32_264
  let v418 : Index := Scalar.indexCast v417
  let c0_265 : Index := 0#32
  ![v418.toNat, 0]
def k0_dev18 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_276 : BitVec 32 := 1#32
  let v433 : BitVec 32 := Scalar.muli v42 c1_i32_276
  let v434 : BitVec 32 := Scalar.addi c0_i32_277 v433
  v434.toNat
def k0_dev19 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_300 : BitVec 32 := 1#32
  let v475 : BitVec 32 := Scalar.muli v55 c1_i32_300
  let v476 : BitVec 32 := Scalar.addi c0_i32_301 v475
  v476.toNat
def k0_dev20 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_324 : BitVec 32 := 1#32
  let v517 : BitVec 32 := Scalar.muli v55 c1_i32_324
  let v518 : BitVec 32 := Scalar.addi c0_i32_325 v517
  v518.toNat
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_418 : BitVec 32 := 4#32
  let v687 : BitVec 32 := Scalar.muli v19 c4_i32_418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v688 : BitVec 32 := Scalar.addi v687 v686
  ![v688.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_418 : BitVec 32 := 4#32
  let v687 : BitVec 32 := Scalar.muli v19 c4_i32_418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v688 : BitVec 32 := Scalar.addi v687 v686
  let c64_i32_420 : BitVec 32 := 64#32
  let v690 : BitVec 32 := Scalar.muli v688 c64_i32_420
  let c0_i32_423 : BitVec 32 := 0#32
  ![v690.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_418 : BitVec 32 := 4#32
  let v687 : BitVec 32 := Scalar.muli v19 c4_i32_418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v688 : BitVec 32 := Scalar.addi v687 v686
  let c64_i32_425 : BitVec 32 := 64#32
  let v697 : BitVec 32 := Scalar.muli v688 c64_i32_425
  let v698 : Index := Scalar.indexCast v697
  let c0_426 : Index := 0#32
  ![v698.toNat, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_418 : BitVec 32 := 4#32
  let v687 : BitVec 32 := Scalar.muli v19 c4_i32_418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v688 : BitVec 32 := Scalar.addi v687 v686
  let c64_i32_434 : BitVec 32 := 64#32
  let v715 : BitVec 32 := Scalar.muli v688 c64_i32_434
  let v716 : Index := Scalar.indexCast v715
  let c0_435 : Index := 0#32
  ![v716.toNat, 0]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_436 : BitVec 32 := 0#32
  let v720 : BitVec 1 := Scalar.cmpi .eq v19 c0_i32_436
  let c1_i32_438 : BitVec 32 := 1#32
  let c1_i32_437 : BitVec 32 := 1#32
  let v721 : BitVec 32 := Scalar.subi v19 c1_i32_437
  let v722 : BitVec 32 := Scalar.select v720 c1_i32_438 v721
  let c4_i32_439 : BitVec 32 := 4#32
  let v723 : BitVec 32 := Scalar.muli v722 c4_i32_439
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v724 : BitVec 32 := Scalar.addi v723 v686
  ![v724.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_436 : BitVec 32 := 0#32
  let v720 : BitVec 1 := Scalar.cmpi .eq v19 c0_i32_436
  let c1_i32_438 : BitVec 32 := 1#32
  let c1_i32_437 : BitVec 32 := 1#32
  let v721 : BitVec 32 := Scalar.subi v19 c1_i32_437
  let v722 : BitVec 32 := Scalar.select v720 c1_i32_438 v721
  let c4_i32_439 : BitVec 32 := 4#32
  let v723 : BitVec 32 := Scalar.muli v722 c4_i32_439
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v724 : BitVec 32 := Scalar.addi v723 v686
  let c64_i32_441 : BitVec 32 := 64#32
  let v726 : BitVec 32 := Scalar.muli v724 c64_i32_441
  let c0_i32_444 : BitVec 32 := 0#32
  ![v726.toNat, 0]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_436 : BitVec 32 := 0#32
  let v720 : BitVec 1 := Scalar.cmpi .eq v19 c0_i32_436
  let c1_i32_438 : BitVec 32 := 1#32
  let c1_i32_437 : BitVec 32 := 1#32
  let v721 : BitVec 32 := Scalar.subi v19 c1_i32_437
  let v722 : BitVec 32 := Scalar.select v720 c1_i32_438 v721
  let c4_i32_439 : BitVec 32 := 4#32
  let v723 : BitVec 32 := Scalar.muli v722 c4_i32_439
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v724 : BitVec 32 := Scalar.addi v723 v686
  let c64_i32_446 : BitVec 32 := 64#32
  let v733 : BitVec 32 := Scalar.muli v724 c64_i32_446
  let v734 : Index := Scalar.indexCast v733
  let c0_447 : Index := 0#32
  ![v734.toNat, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_436 : BitVec 32 := 0#32
  let v720 : BitVec 1 := Scalar.cmpi .eq v19 c0_i32_436
  let c1_i32_438 : BitVec 32 := 1#32
  let c1_i32_437 : BitVec 32 := 1#32
  let v721 : BitVec 32 := Scalar.subi v19 c1_i32_437
  let v722 : BitVec 32 := Scalar.select v720 c1_i32_438 v721
  let c4_i32_439 : BitVec 32 := 4#32
  let v723 : BitVec 32 := Scalar.muli v722 c4_i32_439
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v724 : BitVec 32 := Scalar.addi v723 v686
  let c64_i32_455 : BitVec 32 := 64#32
  let v751 : BitVec 32 := Scalar.muli v724 c64_i32_455
  let v752 : Index := Scalar.indexCast v751
  let c0_456 : Index := 0#32
  ![v752.toNat, 0]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_457 : BitVec 32 := 1#32
  let v756 : BitVec 1 := Scalar.cmpi .sle v19 c1_i32_457
  let c2_i32_461 : BitVec 32 := 2#32
  let c2_i32_458 : BitVec 32 := 2#32
  let v757 : BitVec 1 := Scalar.cmpi .eq v19 c2_i32_458
  let c3_i32_459 : BitVec 32 := 3#32
  let c1_i32_460 : BitVec 32 := 1#32
  let v758 : BitVec 32 := Scalar.select v757 c3_i32_459 c1_i32_460
  let v759 : BitVec 32 := Scalar.select v756 c2_i32_461 v758
  let c4_i32_462 : BitVec 32 := 4#32
  let v760 : BitVec 32 := Scalar.muli v759 c4_i32_462
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v761 : BitVec 32 := Scalar.addi v760 v686
  ![v761.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_457 : BitVec 32 := 1#32
  let v756 : BitVec 1 := Scalar.cmpi .sle v19 c1_i32_457
  let c2_i32_461 : BitVec 32 := 2#32
  let c2_i32_458 : BitVec 32 := 2#32
  let v757 : BitVec 1 := Scalar.cmpi .eq v19 c2_i32_458
  let c3_i32_459 : BitVec 32 := 3#32
  let c1_i32_460 : BitVec 32 := 1#32
  let v758 : BitVec 32 := Scalar.select v757 c3_i32_459 c1_i32_460
  let v759 : BitVec 32 := Scalar.select v756 c2_i32_461 v758
  let c4_i32_462 : BitVec 32 := 4#32
  let v760 : BitVec 32 := Scalar.muli v759 c4_i32_462
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v761 : BitVec 32 := Scalar.addi v760 v686
  let c64_i32_464 : BitVec 32 := 64#32
  let v763 : BitVec 32 := Scalar.muli v761 c64_i32_464
  let c0_i32_467 : BitVec 32 := 0#32
  ![v763.toNat, 0]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_457 : BitVec 32 := 1#32
  let v756 : BitVec 1 := Scalar.cmpi .sle v19 c1_i32_457
  let c2_i32_461 : BitVec 32 := 2#32
  let c2_i32_458 : BitVec 32 := 2#32
  let v757 : BitVec 1 := Scalar.cmpi .eq v19 c2_i32_458
  let c3_i32_459 : BitVec 32 := 3#32
  let c1_i32_460 : BitVec 32 := 1#32
  let v758 : BitVec 32 := Scalar.select v757 c3_i32_459 c1_i32_460
  let v759 : BitVec 32 := Scalar.select v756 c2_i32_461 v758
  let c4_i32_462 : BitVec 32 := 4#32
  let v760 : BitVec 32 := Scalar.muli v759 c4_i32_462
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v761 : BitVec 32 := Scalar.addi v760 v686
  let c64_i32_469 : BitVec 32 := 64#32
  let v770 : BitVec 32 := Scalar.muli v761 c64_i32_469
  let v771 : Index := Scalar.indexCast v770
  let c0_470 : Index := 0#32
  ![v771.toNat, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_457 : BitVec 32 := 1#32
  let v756 : BitVec 1 := Scalar.cmpi .sle v19 c1_i32_457
  let c2_i32_461 : BitVec 32 := 2#32
  let c2_i32_458 : BitVec 32 := 2#32
  let v757 : BitVec 1 := Scalar.cmpi .eq v19 c2_i32_458
  let c3_i32_459 : BitVec 32 := 3#32
  let c1_i32_460 : BitVec 32 := 1#32
  let v758 : BitVec 32 := Scalar.select v757 c3_i32_459 c1_i32_460
  let v759 : BitVec 32 := Scalar.select v756 c2_i32_461 v758
  let c4_i32_462 : BitVec 32 := 4#32
  let v760 : BitVec 32 := Scalar.muli v759 c4_i32_462
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v761 : BitVec 32 := Scalar.addi v760 v686
  let c64_i32_478 : BitVec 32 := 64#32
  let v788 : BitVec 32 := Scalar.muli v761 c64_i32_478
  let v789 : Index := Scalar.indexCast v788
  let c0_479 : Index := 0#32
  ![v789.toNat, 0]
def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_480 : BitVec 32 := 1#32
  let v793 : BitVec 1 := Scalar.cmpi .sle v19 c1_i32_480
  let c3_i32_481 : BitVec 32 := 3#32
  let c0_i32_482 : BitVec 32 := 0#32
  let v794 : BitVec 32 := Scalar.select v793 c3_i32_481 c0_i32_482
  let c4_i32_483 : BitVec 32 := 4#32
  let v795 : BitVec 32 := Scalar.muli v794 c4_i32_483
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v796 : BitVec 32 := Scalar.addi v795 v686
  ![v796.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_480 : BitVec 32 := 1#32
  let v793 : BitVec 1 := Scalar.cmpi .sle v19 c1_i32_480
  let c3_i32_481 : BitVec 32 := 3#32
  let c0_i32_482 : BitVec 32 := 0#32
  let v794 : BitVec 32 := Scalar.select v793 c3_i32_481 c0_i32_482
  let c4_i32_483 : BitVec 32 := 4#32
  let v795 : BitVec 32 := Scalar.muli v794 c4_i32_483
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v796 : BitVec 32 := Scalar.addi v795 v686
  let c64_i32_485 : BitVec 32 := 64#32
  let v798 : BitVec 32 := Scalar.muli v796 c64_i32_485
  let c0_i32_488 : BitVec 32 := 0#32
  ![v798.toNat, 0]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_480 : BitVec 32 := 1#32
  let v793 : BitVec 1 := Scalar.cmpi .sle v19 c1_i32_480
  let c3_i32_481 : BitVec 32 := 3#32
  let c0_i32_482 : BitVec 32 := 0#32
  let v794 : BitVec 32 := Scalar.select v793 c3_i32_481 c0_i32_482
  let c4_i32_483 : BitVec 32 := 4#32
  let v795 : BitVec 32 := Scalar.muli v794 c4_i32_483
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v796 : BitVec 32 := Scalar.addi v795 v686
  let c64_i32_490 : BitVec 32 := 64#32
  let v805 : BitVec 32 := Scalar.muli v796 c64_i32_490
  let v806 : Index := Scalar.indexCast v805
  let c0_491 : Index := 0#32
  ![v806.toNat, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_480 : BitVec 32 := 1#32
  let v793 : BitVec 1 := Scalar.cmpi .sle v19 c1_i32_480
  let c3_i32_481 : BitVec 32 := 3#32
  let c0_i32_482 : BitVec 32 := 0#32
  let v794 : BitVec 32 := Scalar.select v793 c3_i32_481 c0_i32_482
  let c4_i32_483 : BitVec 32 := 4#32
  let v795 : BitVec 32 := Scalar.muli v794 c4_i32_483
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_411 : BitVec 32 := 2#32
  let v676 : BitVec 32 := Scalar.addi v29 c2_i32_411
  let c4_i32_412 : BitVec 32 := 4#32
  let c0_i32_413 : BitVec 32 := 0#32
  let v677 : BitVec 1 := Scalar.cmpi .eq c4_i32_412 c0_i32_413
  let c1_i32_414 : BitVec 32 := 1#32
  let v678 : BitVec 32 := Scalar.select v677 c1_i32_414 c4_i32_412
  let v679 : BitVec 32 := Scalar.remsi v676 v678
  let c0_i32_416 : BitVec 32 := 0#32
  let v681 : BitVec 1 := Scalar.cmpi .slt v679 c0_i32_416
  let c0_i32_417 : BitVec 32 := 0#32
  let v682 : BitVec 1 := Scalar.cmpi .slt v678 c0_i32_417
  let v683 : BitVec 1 := Scalar.xori v681 v682
  let c0_i32_415 : BitVec 32 := 0#32
  let v680 : BitVec 1 := Scalar.cmpi .ne v679 c0_i32_415
  let v684 : BitVec 1 := Scalar.andi v683 v680
  let v685 : BitVec 32 := Scalar.addi v679 v678
  let v686 : BitVec 32 := Scalar.select v684 v685 v679
  let v796 : BitVec 32 := Scalar.addi v795 v686
  let c64_i32_499 : BitVec 32 := 64#32
  let v823 : BitVec 32 := Scalar.muli v796 c64_i32_499
  let v824 : Index := Scalar.indexCast v823
  let c0_500 : Index := 0#32
  ![v824.toNat, 0]
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Tables.lean ====
/-
# Who sends which block to whom

Sixteen devices form a 4 x 4 grid, device `c` in row `z = c / 4` and column `q = c % 4`. Every device starts with one
block of 64 rows of the left operand and must end with all sixteen. This file states, as functions of the device and
of a step number, the order in which a device sends blocks (fifteen sends), the order in which it uses the sixteen
blocks, the semaphores it uses, and the arithmetic facts about them. All are finite statements over the sixteen devices.
-/
module

public import proofs.«01_k».proof.Proof.Gen.KernelIdeal

@[expose] public section

namespace Cert.KernelIdeal.Gather

open Cert.KernelIdeal Cert.KernelIdeal.Gen
open Idealize.ShloMosaic

/-- The device in row `z`, column `q` (both taken modulo four). -/
def at4 (z q : ℕ) : Dev nD := ⟨4 * (z % 4) + q % 4, by have := Nat.mod_lt z (show 0 < 4 by decide); have := Nat.mod_lt q (show 0 < 4 by decide); show _ < 16; omega⟩

/-- The row of a device. -/
def zz (c : Dev nD) : ℕ := c.val / 4
/-- The column of a device. -/
def qq (c : Dev nD) : ℕ := c.val % 4

/-- The other three rows, the nearest first, as the kernel lists them. -/
def near (z : ℕ) : ℕ → ℕ
  | 0 => if z = 0 then 1 else z - 1
  | 1 => if z ≤ 1 then 2 else if z = 2 then 3 else 1
  | _ => if z ≤ 1 then 3 else 0

/-- The next device of the row. -/
def rgt (c : Dev nD) : Dev nD := at4 (zz c) (qq c + 1)
/-- The previous device of the row. -/
def lft (c : Dev nD) : Dev nD := at4 (zz c) (qq c + 3)
/-- The device of the same column in the `j`-th nearest row. -/
def col (c : Dev nD) (j : ℕ) : Dev nD := at4 (near (zz c) j) (qq c)

/-- The `i`-th block (named by the device it comes from) that device `c` uses: its own, the three of its column, the
    eight of the neighbouring columns, the four of the opposite column. -/
def blk (c : Dev nD) : ℕ → Dev nD
  | 0 => c
  | 1 => col c 0
  | 2 => col c 1
  | 3 => col c 2
  | 4 => at4 0 (qq c + 3)
  | 5 => at4 1 (qq c + 3)
  | 6 => at4 2 (qq c + 1)
  | 7 => at4 3 (qq c + 1)
  | 8 => at4 2 (qq c + 3)
  | 9 => at4 3 (qq c + 3)
  | 10 => at4 0 (qq c + 1)
  | 11 => at4 1 (qq c + 1)
  | 12 => at4 (zz c) (qq c + 2)
  | 13 => at4 (near (zz c) 0) (qq c + 2)
  | 14 => at4 (near (zz c) 1) (qq c + 2)
  | _ => at4 (near (zz c) 2) (qq c + 2)

/-- Which of the blocks (by its place in the order of use) the `j`-th send sends. -/
def si : ℕ → ℕ
  | 0 => 0 | 1 => 0 | 2 => 0 | 3 => 0 | 4 => 0
  | 5 => 1 | 6 => 1 | 7 => 2 | 8 => 2 | 9 => 3 | 10 => 3
  | 11 => 4 | 12 => 5 | 13 => 6 | _ => 7

/-- The block the `j`-th send of device `c` sends. -/
def sb (c : Dev nD) (j : ℕ) : Dev nD := blk c (si j)

/-- The device the `j`-th send of device `c` goes to. -/
def sd (c : Dev nD) : ℕ → Dev nD
  | 0 => col c 2 | 1 => col c 1 | 2 => col c 0
  | 3 => rgt c | 4 => lft c | 5 => rgt c | 6 => lft c | 7 => rgt c | 8 => lft c | 9 => rgt c | 10 => lft c
  | 11 => rgt c | 12 => rgt c | 13 => lft c | _ => lft c

/-- The number of the semaphore that completes the `j`-th send of device `c`. -/
def sk (c : Dev nD) : ℕ → ℕ
  | 0 => 3 + near (zz c) 2 | 1 => 3 + near (zz c) 1 | 2 => 3 + near (zz c) 0
  | 3 => 7 + 2 * zz c | 4 => 8 + 2 * zz c
  | 5 => 7 + 2 * near (zz c) 0 | 6 => 8 + 2 * near (zz c) 0
  | 7 => 7 + 2 * near (zz c) 1 | 8 => 8 + 2 * near (zz c) 1
  | 9 => 7 + 2 * near (zz c) 2 | 10 => 8 + 2 * near (zz c) 2
  | 11 => 15 | 12 => 16 | 13 => 17 | _ => 18

/-- How many sends have their block at hand once the first `n` blocks are there. -/
def nf : ℕ → ℕ
  | 0 => 0 | 1 => 5 | 2 => 7 | 3 => 9 | 4 => 11 | 5 => 12 | 6 => 13 | 7 => 14 | _ => 15

/-- The devices a device signals at the start, in the order it signals them. -/
def nb (c : Dev nD) : ℕ → Dev nD
  | 0 => col c 0 | 1 => col c 1 | 2 => col c 2 | 3 => lft c | _ => rgt c

/-- The set of those devices. -/
def nbrs (c : Dev nD) : Finset (Dev nD) := (Finset.range 5).image (nb c)

/-- The step at which device `c` uses block `o`. -/
def iOf (c o : Dev nD) : ℕ := ((List.range 16).find? fun i => blk c i = o).getD 16

/-- The send completed by semaphore `k` on device `c`. -/
def jOf (c : Dev nD) (k : ℕ) : ℕ := ((List.range 15).find? fun j => sk c j = k).getD 15

/-- The semaphore of device `c` that counts the arrival of block `o`. -/
def rk (o : Dev nD) : ℕ := 19 + o.val

/-! ## The facts -/

/-- The semaphores of the sends are numbers 3 to 18. -/
theorem sk_range : ∀ c : Dev nD, ∀ j : Fin 15, 3 ≤ sk c j ∧ sk c j < 19 := by decide +kernel
/-- A send is found again from its semaphore. -/
theorem jOf_sk : ∀ c : Dev nD, ∀ j : Fin 15, jOf c (sk c j) = j := by decide +kernel
/-- A step is found again from the block it uses. -/
theorem iOf_blk : ∀ c : Dev nD, ∀ i : Fin 16, iOf c (blk c i) = i := by decide +kernel
/-- Every block is used at one of the sixteen steps. -/
theorem blk_iOf : ∀ c o : Dev nD, iOf c o < 16 ∧ blk c (iOf c o) = o := by decide +kernel
/-- Only the first block used is the device's own. -/
theorem blk_ne : ∀ c : Dev nD, ∀ i : Fin 16, 1 ≤ i.val → blk c i ≠ c := by decide +kernel
/-- No block is sent to the device that it comes from. -/
theorem sd_ne : ∀ c : Dev nD, ∀ j : Fin 15, sb c j ≠ sd c j := by decide +kernel
/-- Every send goes to one of the devices signalled at the start. -/
theorem sd_mem : ∀ c : Dev nD, ∀ j : Fin 15, sd c j ∈ nbrs c := by decide +kernel
/-- Five devices are signalled. -/
theorem nbrs_card : ∀ c : Dev nD, (nbrs c).card = 5 := by decide +kernel
/-- The devices signalled are those that are sent to. -/
theorem nbrs_eq : ∀ c : Dev nD, (Finset.range 15).image (sd c) = nbrs c := by decide +kernel
/-- Two devices signal each other or not at all. -/
theorem nbrs_symm : ∀ c d : Dev nD, d ∈ nbrs c ↔ c ∈ nbrs d := by decide +kernel
/-- The five devices signalled are different. -/
theorem nb_inj : ∀ c : Dev nD, ∀ i j : Fin 5, nb c i = nb c j → i = j := by decide +kernel
/-- Each device signalled signals back. -/
theorem nb_mem : ∀ c : Dev nD, ∀ i : Fin 5, c ∈ nbrs (nb c i) := by decide +kernel

/-- Each block other than its own reaches a device by exactly one send. -/
theorem one_sender : ∀ c o : Dev nD, o ≠ c →
    (∑ d : Dev nD, ∑ j ∈ Finset.range 15, if sd d j = c ∧ sb d j = o then 1 else 0) = 1 := by decide +kernel

/-- The sender of the `i`-th block to device `c`. -/
def sndr (c : Dev nD) : ℕ → Dev nD
  | 0 => c
  | 1 => col c 0 | 2 => col c 1 | 3 => col c 2
  | 4 => lft c | 5 => lft c | 6 => rgt c | 7 => rgt c | 8 => lft c | 9 => lft c | 10 => rgt c | 11 => rgt c
  | i => if zz (blk c i) < 2 then lft c else rgt c

/-- The blocks arrive from the devices signalled, and from no others. -/
theorem sndr_image : ∀ c : Dev nD, (Finset.Ico 1 16).image (sndr c) = nbrs c := by decide +kernel
/-- The sends of device `p` that go to device `c` are the blocks of `c` that `p` sends. -/
theorem sends_image : ∀ c : Dev nD, ∀ p ∈ nbrs c,
    ((Finset.range 15).filter fun j => sd p j = c).image (fun j => iOf c (sb p j)) = (Finset.Ico 1 16).filter fun i => sndr c i = p := by
  decide +kernel
/-- Different sends to the same device carry different blocks. -/
theorem sends_inj : ∀ c : Dev nD, ∀ p ∈ nbrs c, ∀ j ∈ (Finset.range 15).filter (fun j => sd p j = c),
    ∀ j' ∈ (Finset.range 15).filter (fun j => sd p j = c), iOf c (sb p j) = iOf c (sb p j') → j = j' := by decide +kernel

/-- The semaphores a device uses, one after the other: the three of the local copies, the fifteen of its sends, the
    fifteen of the arrivals, the three it never uses. -/
def semOrd (c : Dev nD) (n : ℕ) : ℕ :=
  if n < 3 then n else if n < 18 then sk c (n - 3) else if n < 33 then rk (blk c (n - 17))
  else if n = 33 then 3 + zz c else if n = 34 then rk c else 35
/-- The list of semaphores names numbers below 36. -/
theorem semOrd_lt : ∀ c : Dev nD, ∀ n : Fin 36, semOrd c n < 36 := by decide +kernel
/-- The list of semaphores names none twice. -/
theorem semOrd_inj : ∀ c : Dev nD, ∀ n n' : Fin 36, semOrd c n = semOrd c n' → n = n' := by decide +kernel

/-- Whether a device ever waits on its DMA semaphore `k`: not on the send semaphore of its own row, not on the arrival
    semaphore of its own block, not on the last one. -/
def used (c : Dev nD) (k : ℕ) : Bool := decide (k < 3 ∨ (3 ≤ k ∧ k < 19 ∧ jOf c k < 15) ∨ (19 ≤ k ∧ k < 35 ∧ k ≠ rk c))
/-- The semaphores of the sends are waited for. -/
theorem used_sk : ∀ c : Dev nD, ∀ j : Fin 15, used c (sk c j) = true := by decide +kernel
/-- The semaphores of the arrivals of other devices' blocks are waited for. -/
theorem used_rk : ∀ c o : Dev nD, o ≠ c → used c (rk o) = true := by decide +kernel
/-- The three semaphores that are never waited for. -/
theorem unused : ∀ c : Dev nD, used c (3 + zz c) = false ∧ used c (rk c) = false ∧ used c 35 = false := by decide +kernel

/-- The level of DMA semaphore `k` of device `c`: an arrival from the own column, from a neighbouring one, from the
    opposite one; everything else lowest. -/
def lvk (c : Dev nD) (k : ℕ) : ℕ :=
  if 19 ≤ k ∧ k < 35 then (if (k - 19) % 4 = qq c then 2 else if (k - 19) % 4 = (qq c + 2) % 4 then 4 else 3) else 0
/-- The level of the arrival that the `j`-th send of device `c` causes. -/
theorem lvk_send : ∀ c : Dev nD, ∀ j : Fin 15, lvk (sd c j) (rk (sb c j)) = if j.val < 3 then 2 else if j.val < 11 then 3 else 4 := by
  decide +kernel
/-- The level of the `i`-th arrival. -/
theorem lvk_recv : ∀ c : Dev nD, ∀ i : Fin 16, lvk c (rk (blk c i)) = if i.val < 4 then 2 else if i.val < 12 then 3 else 4 := by
  decide +kernel
/-- The semaphores of the sends have the lowest level. -/
theorem lvk_sk : ∀ c : Dev nD, ∀ j : Fin 15, lvk c (sk c j) = 0 := by decide +kernel

end Cert.KernelIdeal.Gather

end
-- ==== Proof.KernelIdeal.Closed.lean ====
/-
# What the printed index arithmetic comes to

The kernel computes devices, row offsets and semaphore numbers from its device number with integer arithmetic. Each of
them, on every one of the sixteen devices, is an entry of the tables of `Tables.lean`.
-/
module

public import proofs.«01_k».proof.Proof.KernelIdeal.Tables

@[expose] public section

namespace Cert.KernelIdeal.Gather

open Cert.KernelIdeal Cert.KernelIdeal.Gen
open Idealize.ShloMosaic

/-- The offset of the first row of block `o`. -/
abbrev rowAt (o : Dev nD) : Fin 2 → ℕ := ![64 * o.val, 0]

/-- One of the four semaphores of the sends within a column. -/
abbrev sem9 (off : Fin 1 → ℕ) (h : ∀ d, off d + S1.size d ≤ S4.size d) : DmaSem sig :=
  ((cc0_scratch6.slice (Rect.unit (s := S4) off S1.size h)).squeeze S_ squeezes_S1_S_).sem
/-- One of the eight semaphores of the sends to the neighbouring columns. -/
abbrev sem10 (off : Fin 2 → ℕ) (h : ∀ d, off d + S1x1.size d ≤ S4x2.size d) : DmaSem sig :=
  ((cc0_scratch7.slice (Rect.unit (s := S4x2) off S1x1.size h)).squeeze S_ squeezes_S1x1_S_).sem
/-- One of the four semaphores of the sends that pass a block on. -/
abbrev sem11 (off : Fin 1 → ℕ) (h : ∀ d, off d + S1.size d ≤ S4.size d) : DmaSem sig :=
  ((cc0_scratch8.slice (Rect.unit (s := S4) off S1.size h)).squeeze S_ squeezes_S1_S_).sem
/-- One of the sixteen semaphores of the arrivals. -/
abbrev sem12 (off : Fin 1 → ℕ) (h : ∀ d, off d + S1.size d ≤ S16.size d) : DmaSem sig :=
  ((cc0_scratch9.slice (Rect.unit (s := S16) off S1.size h)).squeeze S_ squeezes_S1_S_).sem

/-- Offset 1 of the program, on every device: the first row of the block used at step 0. -/
theorem off1_at : ∀ c : Dev nD, k0_off1 c = rowAt (blk c 0) := by decide +kernel
/-- Offset 2 of the program, on every device: the first row of the block used at step 0. -/
theorem off2_at : ∀ c : Dev nD, k0_off2 c = rowAt (blk c 0) := by decide +kernel
/-- Offset 5 of the program, on every device: the first row of the block used at step 0. -/
theorem off5_at : ∀ c : Dev nD, k0_off5 c = rowAt (blk c 0) := by decide +kernel
/-- Offset 11 of the program, on every device: the first row of the block used at step 1. -/
theorem off11_at : ∀ c : Dev nD, k0_off11 c = rowAt (blk c 1) := by decide +kernel
/-- Offset 14 of the program, on every device: the first row of the block used at step 1. -/
theorem off14_at : ∀ c : Dev nD, k0_off14 c = rowAt (blk c 1) := by decide +kernel
/-- Offset 15 of the program, on every device: the first row of the block used at step 1. -/
theorem off15_at : ∀ c : Dev nD, k0_off15 c = rowAt (blk c 1) := by decide +kernel
/-- Offset 17 of the program, on every device: the first row of the block used at step 2. -/
theorem off17_at : ∀ c : Dev nD, k0_off17 c = rowAt (blk c 2) := by decide +kernel
/-- Offset 20 of the program, on every device: the first row of the block used at step 2. -/
theorem off20_at : ∀ c : Dev nD, k0_off20 c = rowAt (blk c 2) := by decide +kernel
/-- Offset 21 of the program, on every device: the first row of the block used at step 2. -/
theorem off21_at : ∀ c : Dev nD, k0_off21 c = rowAt (blk c 2) := by decide +kernel
/-- Offset 23 of the program, on every device: the first row of the block used at step 3. -/
theorem off23_at : ∀ c : Dev nD, k0_off23 c = rowAt (blk c 3) := by decide +kernel
/-- Offset 26 of the program, on every device: the first row of the block used at step 3. -/
theorem off26_at : ∀ c : Dev nD, k0_off26 c = rowAt (blk c 3) := by decide +kernel
/-- Offset 27 of the program, on every device: the first row of the block used at step 3. -/
theorem off27_at : ∀ c : Dev nD, k0_off27 c = rowAt (blk c 3) := by decide +kernel
/-- Offset 33 of the program, on every device: the first row of the block used at step 12. -/
theorem off33_at : ∀ c : Dev nD, k0_off33 c = rowAt (blk c 12) := by decide +kernel
/-- Offset 34 of the program, on every device: the first row of the block used at step 12. -/
theorem off34_at : ∀ c : Dev nD, k0_off34 c = rowAt (blk c 12) := by decide +kernel
/-- Offset 35 of the program, on every device: the first row of the block used at step 12. -/
theorem off35_at : ∀ c : Dev nD, k0_off35 c = rowAt (blk c 12) := by decide +kernel
/-- Offset 37 of the program, on every device: the first row of the block used at step 13. -/
theorem off37_at : ∀ c : Dev nD, k0_off37 c = rowAt (blk c 13) := by decide +kernel
/-- Offset 38 of the program, on every device: the first row of the block used at step 13. -/
theorem off38_at : ∀ c : Dev nD, k0_off38 c = rowAt (blk c 13) := by decide +kernel
/-- Offset 39 of the program, on every device: the first row of the block used at step 13. -/
theorem off39_at : ∀ c : Dev nD, k0_off39 c = rowAt (blk c 13) := by decide +kernel
/-- Offset 41 of the program, on every device: the first row of the block used at step 14. -/
theorem off41_at : ∀ c : Dev nD, k0_off41 c = rowAt (blk c 14) := by decide +kernel
/-- Offset 42 of the program, on every device: the first row of the block used at step 14. -/
theorem off42_at : ∀ c : Dev nD, k0_off42 c = rowAt (blk c 14) := by decide +kernel
/-- Offset 43 of the program, on every device: the first row of the block used at step 14. -/
theorem off43_at : ∀ c : Dev nD, k0_off43 c = rowAt (blk c 14) := by decide +kernel
/-- Offset 45 of the program, on every device: the first row of the block used at step 15. -/
theorem off45_at : ∀ c : Dev nD, k0_off45 c = rowAt (blk c 15) := by decide +kernel
/-- Offset 46 of the program, on every device: the first row of the block used at step 15. -/
theorem off46_at : ∀ c : Dev nD, k0_off46 c = rowAt (blk c 15) := by decide +kernel
/-- Offset 47 of the program, on every device: the first row of the block used at step 15. -/
theorem off47_at : ∀ c : Dev nD, k0_off47 c = rowAt (blk c 15) := by decide +kernel
/-- Offset 29 of the program, on every device: the first row of the block used at step 4. -/
theorem off29_at_4 : ∀ c : Dev nD, k0_off29 c 0#32 3#32 = rowAt (blk c 4) := by decide +kernel
/-- Offset 29 of the program, on every device: the first row of the block used at step 5. -/
theorem off29_at_5 : ∀ c : Dev nD, k0_off29 c 4#32 3#32 = rowAt (blk c 5) := by decide +kernel
/-- Offset 29 of the program, on every device: the first row of the block used at step 6. -/
theorem off29_at_6 : ∀ c : Dev nD, k0_off29 c 8#32 1#32 = rowAt (blk c 6) := by decide +kernel
/-- Offset 29 of the program, on every device: the first row of the block used at step 7. -/
theorem off29_at_7 : ∀ c : Dev nD, k0_off29 c 12#32 1#32 = rowAt (blk c 7) := by decide +kernel
/-- Offset 29 of the program, on every device: the first row of the block used at step 8. -/
theorem off29_at_8 : ∀ c : Dev nD, k0_off29 c 8#32 3#32 = rowAt (blk c 8) := by decide +kernel
/-- Offset 29 of the program, on every device: the first row of the block used at step 9. -/
theorem off29_at_9 : ∀ c : Dev nD, k0_off29 c 12#32 3#32 = rowAt (blk c 9) := by decide +kernel
/-- Offset 29 of the program, on every device: the first row of the block used at step 10. -/
theorem off29_at_10 : ∀ c : Dev nD, k0_off29 c 0#32 1#32 = rowAt (blk c 10) := by decide +kernel
/-- Offset 29 of the program, on every device: the first row of the block used at step 11. -/
theorem off29_at_11 : ∀ c : Dev nD, k0_off29 c 4#32 1#32 = rowAt (blk c 11) := by decide +kernel
/-- Offset 30 of the program, on every device: the first row of the block used at step 4. -/
theorem off30_at_4 : ∀ c : Dev nD, k0_off30 c 0#32 3#32 = rowAt (blk c 4) := by decide +kernel
/-- Offset 30 of the program, on every device: the first row of the block used at step 5. -/
theorem off30_at_5 : ∀ c : Dev nD, k0_off30 c 4#32 3#32 = rowAt (blk c 5) := by decide +kernel
/-- Offset 30 of the program, on every device: the first row of the block used at step 6. -/
theorem off30_at_6 : ∀ c : Dev nD, k0_off30 c 8#32 1#32 = rowAt (blk c 6) := by decide +kernel
/-- Offset 30 of the program, on every device: the first row of the block used at step 7. -/
theorem off30_at_7 : ∀ c : Dev nD, k0_off30 c 12#32 1#32 = rowAt (blk c 7) := by decide +kernel
/-- Offset 30 of the program, on every device: the first row of the block used at step 8. -/
theorem off30_at_8 : ∀ c : Dev nD, k0_off30 c 8#32 3#32 = rowAt (blk c 8) := by decide +kernel
/-- Offset 30 of the program, on every device: the first row of the block used at step 9. -/
theorem off30_at_9 : ∀ c : Dev nD, k0_off30 c 12#32 3#32 = rowAt (blk c 9) := by decide +kernel
/-- Offset 30 of the program, on every device: the first row of the block used at step 10. -/
theorem off30_at_10 : ∀ c : Dev nD, k0_off30 c 0#32 1#32 = rowAt (blk c 10) := by decide +kernel
/-- Offset 30 of the program, on every device: the first row of the block used at step 11. -/
theorem off30_at_11 : ∀ c : Dev nD, k0_off30 c 4#32 1#32 = rowAt (blk c 11) := by decide +kernel
/-- Offset 31 of the program, on every device: the first row of the block used at step 4. -/
theorem off31_at_4 : ∀ c : Dev nD, k0_off31 c 0#32 3#32 = rowAt (blk c 4) := by decide +kernel
/-- Offset 31 of the program, on every device: the first row of the block used at step 5. -/
theorem off31_at_5 : ∀ c : Dev nD, k0_off31 c 4#32 3#32 = rowAt (blk c 5) := by decide +kernel
/-- Offset 31 of the program, on every device: the first row of the block used at step 6. -/
theorem off31_at_6 : ∀ c : Dev nD, k0_off31 c 8#32 1#32 = rowAt (blk c 6) := by decide +kernel
/-- Offset 31 of the program, on every device: the first row of the block used at step 7. -/
theorem off31_at_7 : ∀ c : Dev nD, k0_off31 c 12#32 1#32 = rowAt (blk c 7) := by decide +kernel
/-- Offset 31 of the program, on every device: the first row of the block used at step 8. -/
theorem off31_at_8 : ∀ c : Dev nD, k0_off31 c 8#32 3#32 = rowAt (blk c 8) := by decide +kernel
/-- Offset 31 of the program, on every device: the first row of the block used at step 9. -/
theorem off31_at_9 : ∀ c : Dev nD, k0_off31 c 12#32 3#32 = rowAt (blk c 9) := by decide +kernel
/-- Offset 31 of the program, on every device: the first row of the block used at step 10. -/
theorem off31_at_10 : ∀ c : Dev nD, k0_off31 c 0#32 1#32 = rowAt (blk c 10) := by decide +kernel
/-- Offset 31 of the program, on every device: the first row of the block used at step 11. -/
theorem off31_at_11 : ∀ c : Dev nD, k0_off31 c 4#32 1#32 = rowAt (blk c 11) := by decide +kernel
/-- The semaphore of the arrival of the block used at step 0. -/
theorem rsem_0 : ∀ c : Dev nD, (sem12 (k0_off4 c) (k0_off4_inb c)).val = rk (blk c 0) := by decide +kernel
/-- The semaphore of the arrival of the block used at step 1. -/
theorem rsem_1 : ∀ c : Dev nD, (sem12 (k0_off10 c) (k0_off10_inb c)).val = rk (blk c 1) := by decide +kernel
/-- The semaphore of the arrival of the block used at step 2. -/
theorem rsem_2 : ∀ c : Dev nD, (sem12 (k0_off16 c) (k0_off16_inb c)).val = rk (blk c 2) := by decide +kernel
/-- The semaphore of the arrival of the block used at step 3. -/
theorem rsem_3 : ∀ c : Dev nD, (sem12 (k0_off22 c) (k0_off22_inb c)).val = rk (blk c 3) := by decide +kernel
/-- The semaphore of the arrival of the block used at step 12. -/
theorem rsem_12 : ∀ c : Dev nD, (sem12 (k0_off32 c) (k0_off32_inb c)).val = rk (blk c 12) := by decide +kernel
/-- The semaphore of the arrival of the block used at step 13. -/
theorem rsem_13 : ∀ c : Dev nD, (sem12 (k0_off36 c) (k0_off36_inb c)).val = rk (blk c 13) := by decide +kernel
/-- The semaphore of the arrival of the block used at step 14. -/
theorem rsem_14 : ∀ c : Dev nD, (sem12 (k0_off40 c) (k0_off40_inb c)).val = rk (blk c 14) := by decide +kernel
/-- The semaphore of the arrival of the block used at step 15. -/
theorem rsem_15 : ∀ c : Dev nD, (sem12 (k0_off44 c) (k0_off44_inb c)).val = rk (blk c 15) := by decide +kernel
/-- The semaphore of the arrival of the block used at step 4. -/
theorem rsem_4 : ∀ c : Dev nD, (sem12 (k0_off28 c 0#32 3#32) (k0_off28_inb c 0 1)).val = rk (blk c 4) := by decide +kernel
/-- The semaphore of the arrival of the block used at step 5. -/
theorem rsem_5 : ∀ c : Dev nD, (sem12 (k0_off28 c 4#32 3#32) (k0_off28_inb c 1 1)).val = rk (blk c 5) := by decide +kernel
/-- The semaphore of the arrival of the block used at step 6. -/
theorem rsem_6 : ∀ c : Dev nD, (sem12 (k0_off28 c 8#32 1#32) (k0_off28_inb c 2 0)).val = rk (blk c 6) := by decide +kernel
/-- The semaphore of the arrival of the block used at step 7. -/
theorem rsem_7 : ∀ c : Dev nD, (sem12 (k0_off28 c 12#32 1#32) (k0_off28_inb c 3 0)).val = rk (blk c 7) := by decide +kernel
/-- The semaphore of the arrival of the block used at step 8. -/
theorem rsem_8 : ∀ c : Dev nD, (sem12 (k0_off28 c 8#32 3#32) (k0_off28_inb c 2 1)).val = rk (blk c 8) := by decide +kernel
/-- The semaphore of the arrival of the block used at step 9. -/
theorem rsem_9 : ∀ c : Dev nD, (sem12 (k0_off28 c 12#32 3#32) (k0_off28_inb c 3 1)).val = rk (blk c 9) := by decide +kernel
/-- The semaphore of the arrival of the block used at step 10. -/
theorem rsem_10 : ∀ c : Dev nD, (sem12 (k0_off28 c 0#32 1#32) (k0_off28_inb c 0 0)).val = rk (blk c 10) := by decide +kernel
/-- The semaphore of the arrival of the block used at step 11. -/
theorem rsem_11 : ∀ c : Dev nD, (sem12 (k0_off28 c 4#32 1#32) (k0_off28_inb c 1 0)).val = rk (blk c 11) := by decide +kernel
/-- The semaphore of send 0. -/
theorem ssem_0 : ∀ c : Dev nD, (sem9 (k0_off3 c) (k0_off3_inb c)).val = sk c 0 := by decide +kernel
/-- The semaphore of send 1. -/
theorem ssem_1 : ∀ c : Dev nD, (sem9 (k0_off6 c) (k0_off6_inb c)).val = sk c 1 := by decide +kernel
/-- The semaphore of send 2. -/
theorem ssem_2 : ∀ c : Dev nD, (sem9 (k0_off7 c) (k0_off7_inb c)).val = sk c 2 := by decide +kernel
/-- The semaphore of send 3. -/
theorem ssem_3 : ∀ c : Dev nD, (sem10 (k0_off8 c) (k0_off8_inb c)).val = sk c 3 := by decide +kernel
/-- The semaphore of send 4. -/
theorem ssem_4 : ∀ c : Dev nD, (sem10 (k0_off9 c) (k0_off9_inb c)).val = sk c 4 := by decide +kernel
/-- The semaphore of send 5. -/
theorem ssem_5 : ∀ c : Dev nD, (sem10 (k0_off12 c) (k0_off12_inb c)).val = sk c 5 := by decide +kernel
/-- The semaphore of send 6. -/
theorem ssem_6 : ∀ c : Dev nD, (sem10 (k0_off13 c) (k0_off13_inb c)).val = sk c 6 := by decide +kernel
/-- The semaphore of send 7. -/
theorem ssem_7 : ∀ c : Dev nD, (sem10 (k0_off18 c) (k0_off18_inb c)).val = sk c 7 := by decide +kernel
/-- The semaphore of send 8. -/
theorem ssem_8 : ∀ c : Dev nD, (sem10 (k0_off19 c) (k0_off19_inb c)).val = sk c 8 := by decide +kernel
/-- The semaphore of send 9. -/
theorem ssem_9 : ∀ c : Dev nD, (sem10 (k0_off24 c) (k0_off24_inb c)).val = sk c 9 := by decide +kernel
/-- The semaphore of send 10. -/
theorem ssem_10 : ∀ c : Dev nD, (sem10 (k0_off25 c) (k0_off25_inb c)).val = sk c 10 := by decide +kernel
/-- The semaphore of send 11. -/
theorem ssem_11 : ∀ c : Dev nD, (sem11 ![0] inb_S4_S1_0).val = sk c 11 := by decide +kernel
/-- The semaphore of send 12. -/
theorem ssem_12 : ∀ c : Dev nD, (sem11 ![1] inb_S4_S1_1).val = sk c 12 := by decide +kernel
/-- The semaphore of send 13. -/
theorem ssem_13 : ∀ c : Dev nD, (sem11 ![2] inb_S4_S1_2).val = sk c 13 := by decide +kernel
/-- The semaphore of send 14. -/
theorem ssem_14 : ∀ c : Dev nD, (sem11 ![3] inb_S4_S1_3).val = sk c 14 := by decide +kernel
/-- The device that send 0 goes to. -/
theorem dev_0 : ∀ c : Dev nD, (⟨k0_dev6 c, k0_dev6_lt c⟩ : Dev nD) = sd c 0 := by decide +kernel
/-- The device that send 1 goes to. -/
theorem dev_1 : ∀ c : Dev nD, (⟨k0_dev7 c, k0_dev7_lt c⟩ : Dev nD) = sd c 1 := by decide +kernel
/-- The device that send 2 goes to. -/
theorem dev_2 : ∀ c : Dev nD, (⟨k0_dev8 c, k0_dev8_lt c⟩ : Dev nD) = sd c 2 := by decide +kernel
/-- The device that send 3 goes to. -/
theorem dev_3 : ∀ c : Dev nD, (⟨k0_dev9 c, k0_dev9_lt c⟩ : Dev nD) = sd c 3 := by decide +kernel
/-- The device that send 4 goes to. -/
theorem dev_4 : ∀ c : Dev nD, (⟨k0_dev10 c, k0_dev10_lt c⟩ : Dev nD) = sd c 4 := by decide +kernel
/-- The device that send 5 goes to. -/
theorem dev_5 : ∀ c : Dev nD, (⟨k0_dev11 c, k0_dev11_lt c⟩ : Dev nD) = sd c 5 := by decide +kernel
/-- The device that send 6 goes to. -/
theorem dev_6 : ∀ c : Dev nD, (⟨k0_dev12 c, k0_dev12_lt c⟩ : Dev nD) = sd c 6 := by decide +kernel
/-- The device that send 7 goes to. -/
theorem dev_7 : ∀ c : Dev nD, (⟨k0_dev13 c, k0_dev13_lt c⟩ : Dev nD) = sd c 7 := by decide +kernel
/-- The device that send 8 goes to. -/
theorem dev_8 : ∀ c : Dev nD, (⟨k0_dev14 c, k0_dev14_lt c⟩ : Dev nD) = sd c 8 := by decide +kernel
/-- The device that send 9 goes to. -/
theorem dev_9 : ∀ c : Dev nD, (⟨k0_dev15 c, k0_dev15_lt c⟩ : Dev nD) = sd c 9 := by decide +kernel
/-- The device that send 10 goes to. -/
theorem dev_10 : ∀ c : Dev nD, (⟨k0_dev16 c, k0_dev16_lt c⟩ : Dev nD) = sd c 10 := by decide +kernel
/-- The device that send 11 goes to. -/
theorem dev_11 : ∀ c : Dev nD, (⟨k0_dev17 c, k0_dev17_lt c⟩ : Dev nD) = sd c 11 := by decide +kernel
/-- The device that send 12 goes to. -/
theorem dev_12 : ∀ c : Dev nD, (⟨k0_dev18 c, k0_dev18_lt c⟩ : Dev nD) = sd c 12 := by decide +kernel
/-- The device that send 13 goes to. -/
theorem dev_13 : ∀ c : Dev nD, (⟨k0_dev19 c, k0_dev19_lt c⟩ : Dev nD) = sd c 13 := by decide +kernel
/-- The device that send 14 goes to. -/
theorem dev_14 : ∀ c : Dev nD, (⟨k0_dev20 c, k0_dev20_lt c⟩ : Dev nD) = sd c 14 := by decide +kernel
/-- The device of entry signal 0. -/
theorem nbr_0 : ∀ c : Dev nD, (⟨k0_dev1 c, k0_dev1_lt c⟩ : Dev nD) = nb c 0 := by decide +kernel
/-- The device of entry signal 1. -/
theorem nbr_1 : ∀ c : Dev nD, (⟨k0_dev2 c, k0_dev2_lt c⟩ : Dev nD) = nb c 1 := by decide +kernel
/-- The device of entry signal 2. -/
theorem nbr_2 : ∀ c : Dev nD, (⟨k0_dev3 c, k0_dev3_lt c⟩ : Dev nD) = nb c 2 := by decide +kernel
/-- The device of entry signal 3. -/
theorem nbr_3 : ∀ c : Dev nD, (⟨k0_dev4 c, k0_dev4_lt c⟩ : Dev nD) = nb c 3 := by decide +kernel
/-- The device of entry signal 4. -/
theorem nbr_4 : ∀ c : Dev nD, (⟨k0_dev5 c, k0_dev5_lt c⟩ : Dev nD) = nb c 4 := by decide +kernel

end Cert.KernelIdeal.Gather

end
-- ==== Proof.KernelIdeal.Proto.lean ====
/-
# The protocol of the gather

What each device's buffers are to hold, what each semaphore carries when it is raised, what each device owes when the
kernel starts, and in which order waits may happen.

* The entry (barrier) semaphore of device `c` is raised once by each of the five devices that `c` exchanges blocks with;
  the raise by `d` hands `c` the places in `d`'s gathering buffer into which `c` will copy blocks.
* The semaphore of a send hands the sender back the share of the block that the copy was reading.
* The semaphore of an arrival hands the receiver the block, filled.
* The three semaphores of the local copies hand back both ends of the copy.
-/
module

public import proofs.«01_k».proof.Proof.KernelIdeal.Closed
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds library, its duties named by devices. -/
abbrev UB : Type := URounds (GSem nD τ sig) (Dev nD)
/-- The ghost state of the launch beside it. -/
abbrev UU : Type := UR sig nD τ × UB

local notation "𝕄" => MT nD τ sig Unit (Elt F) ℕ UU ℕ

/-- Where the pipeline's ghost state lives. -/
abbrev EP : Emb (UR sig nD τ) (MT nD τ sig Unit (Elt F) ℕ UU ℕ) := embL
/-- Where the protocol's ghost state lives. -/
abbrev ER : Emb UB (MT nD τ sig Unit (Elt F) ℕ UU ℕ) := embR
/-- The kernel has no loop that needs a variant. -/
abbrev 𝒱₀ : Variants := Variants.none

variable (m : (ℓ : Loc nD τ sig) → Buf (Elt F) ℓ) (ρ : Dev nD → PrngReg)

/-- The state in which the kernel starts. -/
def s₀ : MemSt nD τ sig (Elt F) := ⟨m, fun _ => 0, ρ⟩

/-! ## Blocks of rows -/

/-- Block `o` lies in the gathering buffer. -/
theorem inbG (o : Dev nD) : ∀ a, rowAt o a + S64x1024.size a ≤ S1024x1024.size a := by revert o; decide +kernel
/-- Block `o` lies in the result buffer. -/
theorem inbY (o : Dev nD) : ∀ a, rowAt o a + S64x64.size a ≤ S1024x64.size a := by revert o; decide +kernel

/-- The 64 rows of the gathering buffer that hold block `o`. -/
abbrev gR (o : Dev nD) : Rect S1024x1024 := Rect.unit (s := S1024x1024) (rowAt o) S64x1024.size (inbG o)
/-- The 64 rows of the result buffer computed from block `o`. -/
abbrev yR (o : Dev nD) : Rect S1024x64 := Rect.unit (s := S1024x64) (rowAt o) S64x64.size (inbY o)

/-- The gathering buffer. -/
abbrev gV : Memref sig .tc .vmem S1024x1024 .bf16 := Memref.whole cc0_scratch4
/-- The result buffer. -/
abbrev yV : Memref sig .tc .vmem S1024x64 .f32 := Memref.whole cc0_scratch3
/-- The buffer of the rounded right operand. -/
abbrev wV : Memref sig .tc .vmem S1024x64 .bf16 := Memref.whole cc0_scratch2
/-- The gathering buffer's block `o`, as a copy names it. -/
abbrev gM (o : Dev nD) : Memref sig .tc .vmem S64x1024 .bf16 := gV.slice (gR o) (fun _ => rfl)

/-- The elements of block `o` in the gathering buffer. -/
def gSet (o : Dev nD) : Finset S1024x1024.Idx := (gR o).set
/-- The elements of block `o` in the result buffer. -/
def ySet (o : Dev nD) : Finset S1024x64.Idx := (yR o).set

/-- The elements that a copy of block `o` touches. -/
theorem gM_set (o : Dev nD) : (gM o).view.set = gSet o := View.set_slice_whole _ _
/-- The elements that a store of block `o` touches. -/
theorem gM_access (o : Dev nD) : (gV.access (gR o)).setOn Finset.univ = gSet o := View.set_slice_whole _ _
/-- The elements that a load of block `o` reads. -/
theorem gM_load (o : Dev nD) : gV.view.setOn (gR o).toLoadRect.set = gSet o := by
  rw [← gM_access o]; exact (View.set_slice _ _).symm
/-- The elements that a store of block `o` of the result touches. -/
theorem yM_access (o : Dev nD) : (yV.access (yR o)).setOn Finset.univ = ySet o := View.set_slice_whole _ _
/-- The elements that a load of block `o` of the result reads. -/
theorem yM_load (o : Dev nD) : yV.view.setOn (yR o).toLoadRect.set = ySet o := by
  rw [← yM_access o]; exact (View.set_slice _ _).symm

/-- Sixteen blocks of 64 rows of `n` numbers, one under the other. -/
def stack {n : ℕ} {A : Type} (b : Dev nD → (⟨2, ![64, n]⟩ : Shape).Idx → A) : (⟨2, ![1024, n]⟩ : Shape).Idx → A :=
  fun i => b ⟨(i 0).val / 64, Nat.div_lt_of_lt_mul (i 0).isLt⟩
    fun a => match a with
      | 0 => ⟨(i 0).val % 64, Nat.mod_lt _ (by decide)⟩
      | 1 => i 1

/-- In block `o` of the stack stands block `o`. -/
theorem stack_at {n : ℕ} {A : Type} (b : Dev nD → (⟨2, ![64, n]⟩ : Shape).Idx → A) (o : Dev nD)
    (inb : ∀ a, rowAt o a + (![64, n] : Fin 2 → ℕ) a ≤ (![1024, n] : Fin 2 → ℕ) a) (j : (⟨2, ![64, n]⟩ : Shape).Idx) :
    stack b ((Rect.unit (s := ⟨2, ![1024, n]⟩) (rowAt o) ![64, n] inb).emb j) = b o j := by
  have h0 : (((Rect.unit (s := ⟨2, ![1024, n]⟩) (rowAt o) ![64, n] inb).emb j 0 : Fin _) : ℕ) = 64 * o.val + (j 0).val := by
    rw [Rect.emb_apply]; simp
  have h1 : (((Rect.unit (s := ⟨2, ![1024, n]⟩) (rowAt o) ![64, n] inb).emb j 1 : Fin _) : ℕ) = (j 1).val := by
    rw [Rect.emb_apply]; simp
  have hj : (j 0).val < 64 := (j 0).isLt
  unfold stack
  have ho : (⟨((Rect.unit (s := ⟨2, ![1024, n]⟩) (rowAt o) ![64, n] inb).emb j 0).val / 64,
      Nat.div_lt_of_lt_mul ((Rect.unit (s := ⟨2, ![1024, n]⟩) (rowAt o) ![64, n] inb).emb j 0).isLt⟩ : Dev nD) = o :=
    Fin.ext (by show _ / 64 = o.val; rw [h0]; omega)
  rw [ho]
  congr 1
  funext a
  match a with
  | 0 => exact Fin.ext (by show _ % 64 = (j 0).val; rw [h0]; omega)
  | 1 => exact Fin.ext h1

/-! ## Contents -/

/-- Device `o`'s block of the left operand, rounded. -/
def xb (o : Dev nD) : FVec F S64x1024 .bf16 := k0_pay1 (m ((o : Thread nD τ).loc main_arg0))
/-- Device `c`'s columns of the right operand, rounded. -/
def wb (c : Dev nD) : FVec F S1024x64 .bf16 := k0_pay2 (m ((c : Thread nD τ).loc main_arg1))
/-- The gathered left operand, the same on every device. -/
def XG : Vec F S1024x1024 .bf16 := stack (xb m)
/-- One block of rows of device `c`'s result. -/
def yb (c o : Dev nD) : FVec F S64x64 .f32 := k0_pay7 (xb m o) (wb m c)
/-- Device `c`'s result. -/
def YF (c : Dev nD) : Vec F S1024x64 .f32 := stack (yb m c)

/-- Block `o` of the gathered operand is device `o`'s block, rounded. -/
theorem read_XG (o : Dev nD) : gV.view.readAt (Elt F) (gR o).toLoadRect (XG m) = xb m o :=
  funext fun j => stack_at (xb m) o (inbG o) j

/-- Once block `o` is stored, its place holds what the gathered operand has there. -/
theorem write_XG (o : Dev nD) (f : Vec F S1024x1024 .bf16) :
    ∀ i ∈ gSet o, (gV.access (gR o)).write (Elt F) f (xb m o) Finset.univ i = XG m i := by
  intro i hi
  rw [← gM_access] at hi
  obtain ⟨j, -, rfl⟩ := Finset.mem_map.mp hi
  exact (View.write_emb_of_mem (v := gV.access (gR o)) f (xb m o) (Finset.mem_univ j)).trans (stack_at (xb m) o (inbG o) j).symm

/-- Once block `o` of the result is stored, its place holds what the result has there. -/
theorem write_YF (c o : Dev nD) (f : Vec F S1024x64 .f32) :
    ∀ i ∈ ySet o, (yV.access (yR o)).write (Elt F) f (yb m c o) Finset.univ i = YF m c i := by
  intro i hi
  rw [← yM_access] at hi
  obtain ⟨j, -, rfl⟩ := Finset.mem_map.mp hi
  exact (View.write_emb_of_mem (v := yV.access (yR o)) f (yb m c o) (Finset.mem_univ j)).trans (stack_at (yb m c) o (inbY o) j).symm

/-- A copy of block `o` puts there what the source held. -/
theorem copy_XG (o : Dev nD) (f g : Vec F S1024x1024 .bf16) :
    ∀ i ∈ gSet o, (gM o).view.write (Elt F) f ((gM o).view.read (Elt F) g) Finset.univ i = g i := by
  intro i hi
  rw [View.write_read_eq_piecewise]
  exact Finset.piecewise_eq_of_mem _ _ _ (by rw [← gM_set] at hi; exact hi)

/-! ## Cells -/

/-- DMA semaphore number `k`. -/
def ds (k : ℕ) : DmaSem sig := (⟨k % 36, Nat.mod_lt _ (by decide)⟩ : Fin 36)
/-- The semaphore number `k` has number `k`. -/
theorem ds_val {k : ℕ} (h : k < 36) : (ds k).val = k := Nat.mod_eq_of_lt h
/-- A semaphore is known by its number. -/
theorem ds_of_val {s : DmaSem sig} {k : ℕ} (h : s.val = k) : s = ds k := by
  subst h; exact Fin.ext (Nat.mod_eq_of_lt s.isLt).symm

/-- The entry semaphore. -/
abbrev barS : Sem sig := barrier0
/-- DMA semaphore number `k` of device `c`. -/
abbrev dcell (c : Dev nD) (k : ℕ) : GSem nD τ sig := ((c : Thread nD τ), .dma (ds k))
/-- The entry semaphore of device `c`. -/
abbrev bcell (c : Dev nD) : GSem nD τ sig := ((c : Thread nD τ), .reg barS)

/-- DMA semaphores differ if their devices or numbers do. -/
theorem dcell_inj {c c' : Dev nD} {k k' : ℕ} (hk : k < 36) (hk' : k' < 36) (h : dcell c k = dcell c' k') : c = c' ∧ k = k' := by
  have h1 : (c : Thread nD τ) = (c' : Thread nD τ) := congrArg Prod.fst h
  have h2 : (SemLoc.dma (ds k) : SemLoc sig) = .dma (ds k') := congrArg Prod.snd h
  refine ⟨congrArg Prod.fst h1, ?_⟩
  have h3 : ds k = ds k' := by injection h2
  have := congrArg Fin.val h3
  rwa [ds_val hk, ds_val hk'] at this

/-- What one block's copy counts on its semaphores. -/
abbrev N : ℕ := (gM 0).view.dmaCredit
/-- A block counts for something. -/
theorem N_pos : 0 < N := View.dmaCredit_pos _ (by decide)
/-- Every block counts the same. -/
theorem N_eq (o : Dev nD) : (gM o).view.dmaCredit = N := rfl
/-- What the copy of the left operand counts. -/
abbrev Nx : ℕ := (Memref.whole cc0_scratch0 : Memref sig .tc .vmem S64x1024 .f32).view.dmaCredit
/-- What the copy of the right operand counts. -/
abbrev Nw : ℕ := (Memref.whole cc0_scratch1 : Memref sig .tc .vmem S1024x64 .f32).view.dmaCredit
/-- What the copy of the result counts. -/
abbrev No : ℕ := (Memref.whole main_v1 : Memref sig .tc .hbm S1024x64 .f32).view.dmaCredit
/-- The copy of the left operand counts for something. -/
theorem Nx_pos : 0 < Nx := View.dmaCredit_pos _ (by decide)
/-- The copy of the right operand counts for something. -/
theorem Nw_pos : 0 < Nw := View.dmaCredit_pos _ (by decide)
/-- The copy of the result counts for something. -/
theorem No_pos : 0 < No := View.dmaCredit_pos _ (by decide)

/-- What the copy completed by DMA semaphore `k` counts on it. -/
def amt (k : ℕ) : ℕ := if k = 0 then Nx else if k = 1 then Nw else if k = 2 then No else N
/-- Every copy counts for something. -/
theorem amt_pos (k : ℕ) : 0 < amt k := by
  unfold amt; split; · exact Nx_pos
  split; · exact Nw_pos
  split; · exact No_pos
  exact N_pos
/-- Every copy other than the three local ones counts one block. -/
theorem amt_big {k : ℕ} (h : 3 ≤ k) : amt k = N := by unfold amt; rw [if_neg (by omega), if_neg (by omega), if_neg (by omega)]

/-! ## Shares of the blocks being sent -/

/-- The share of its block that the `j`-th send reads through; the block's own device keeps the rest to compute with. -/
def sh : ℕ → PosShare TreeShare
  | 0 => fullShare.right.left.left
  | 1 => fullShare.right.left.right
  | 2 => fullShare.right.right.left
  | 3 | 5 | 7 | 9 => fullShare.left.left
  | 4 | 6 | 8 | 10 => fullShare.left.right
  | _ => fullShare.left

/-- The share of the `i`-th block kept to compute with while copies read it. -/
def kp : ℕ → PosShare TreeShare
  | 0 => fullShare.right.right.right
  | 1 | 2 | 3 | 4 | 5 | 6 | 7 => fullShare.right
  | _ => fullShare

/-! ## What the semaphores carry -/

/-- Block `o` of device `c`'s gathering buffer, with contents `f`. -/
def gRow (c o : Dev nD) (q : PosShare TreeShare) (f : Vec F S1024x1024 .bf16) : sProp 𝕄 :=
  (c : Thread nD τ).loc cc0_scratch4 ↦[gSet o]{q} f
/-- Block `o` of device `c`'s result buffer, with contents `f`. -/
def yRow (c o : Dev nD) (f : Vec F S1024x64 .f32) : sProp 𝕄 :=
  (c : Thread nD τ).loc cc0_scratch3 ↦[ySet o]{fullShare} f
/-- A whole buffer of device `c`. -/
def whole (c : Dev nD) (b : Ref sig .tc) (f : Buf (Elt F) ((c : Thread nD τ).loc b)) : sProp 𝕄 :=
  (c : Thread nD τ).loc b ↦{fullShare} f

omit [FloatOps F] in
instance gRow_storable (c o : Dev nD) (q) (f) : BI.Storable (upEmb : UEmb _ 𝕄) (gRow (F := F) c o q f) := by unfold gRow; infer_instance
omit [FloatOps F] in
instance whole_storable (c : Dev nD) (b) (f) : BI.Storable (upEmb : UEmb _ 𝕄) (whole (F := F) c b f) := by unfold whole; infer_instance

/-- The places on device `d` that device `c` will fill. -/
def barPay (c d : Dev nD) : sProp 𝕄 :=
  bigSep ((Finset.range 15).filter fun j => sd c j = d) fun j => iprop(∃ f, gRow (F := F) d (sb c j) fullShare f)

/-- What the local copy number `k` hands back. -/
def copyPay (c : Dev nD) (k : ℕ) : sProp 𝕄 :=
  if k = 0 then iprop(whole c cc0_scratch0 (m ((c : Thread nD τ).loc main_arg0)) ∗ whole c main_arg0 (m ((c : Thread nD τ).loc main_arg0)))
  else if k = 1 then iprop(whole c cc0_scratch1 (m ((c : Thread nD τ).loc main_arg1)) ∗ whole c main_arg1 (m ((c : Thread nD τ).loc main_arg1)))
  else iprop(whole c main_v1 (YF m c) ∗ whole c cc0_scratch3 (YF m c))

/-- What the `j`-th send hands back. -/
def sendPay (c : Dev nD) (j : ℕ) : sProp 𝕄 := gRow c (sb c j) (sh j) (XG m)
/-- What the arrival of block `o` hands over. -/
def recvPay (c o : Dev nD) : sProp 𝕄 := gRow c o fullShare (XG m)

/-- What DMA semaphore `k` of device `c` hands over. -/
def dmaPay (c : Dev nD) (k : ℕ) : sProp 𝕄 :=
  if k < 3 then copyPay m c k else if k < 19 then sendPay m c (jOf c k) else recvPay m c ⟨(k - 19) % 16, Nat.mod_lt _ (by decide)⟩

instance barPay_storable (c d : Dev nD) : BI.Storable (upEmb : UEmb _ 𝕄) (barPay (F := F) c d) := by unfold barPay; infer_instance
instance dmaPay_storable (c : Dev nD) (k : ℕ) : BI.Storable (upEmb : UEmb _ 𝕄) (dmaPay (F := F) m c k) := by
  unfold dmaPay copyPay sendPay recvPay
  (repeat' split) <;> infer_instance

/-- The schedule: one round; the entry semaphore has a duty for each neighbour, a DMA semaphore that is ever waited for
    has one duty. -/
def Rd : Rounds.Schedule (GSem nD τ sig) (Dev nD) 𝕄 where
  duties g r := if r = 0 ∧ g.1.2 = .tc then (match g.2 with
    | .reg _ => nbrs g.1.1
    | .dma k => if used g.1.1 k.val = true then {0} else ∅) else ∅
  unitless _ := False
  amount g _ _ := match g.2 with
    | .reg _ => 1
    | .dma k => amt k.val
  payload g _ d := match g.2 with
    | .reg _ => barPay g.1.1 d
    | .dma k => dmaPay m g.1.1 k.val
  amount_pos g _ _ _ := by
    rcases g with ⟨t, (s | k)⟩
    · exact Nat.one_pos
    · exact amt_pos _

instance Rd_payload_storable (g : GSem nD τ sig) (r : ℕ) (d : Dev nD) : BI.Storable (upEmb : UEmb _ 𝕄) ((Rd (F := F) m).payload g r d) := by
  rcases g with ⟨t, (s | k)⟩
  · show BI.Storable upEmb (barPay t.1 d); infer_instance
  · show BI.Storable upEmb (dmaPay m t.1 k.val); infer_instance

section Sched
variable (c : Dev nD)

/-- The duties on an entry semaphore: one of each device signalled. -/
theorem duties_bar : (Rd (F := F) m).duties (bcell c) 0 = nbrs c := by
  dsimp only [Rd]; exact if_pos ⟨rfl, rfl⟩
/-- The one duty on a DMA semaphore that is waited for. -/
theorem duties_dma {k : ℕ} (hk : k < 36) (hu : used c k = true) : (Rd (F := F) m).duties (dcell c k) 0 = {0} := by
  dsimp only [Rd]
  rw [if_pos ⟨rfl, rfl⟩, ds_val hk, if_pos hu]
/-- There is no duty on a semaphore that is never waited for. -/
theorem duties_unused {k : ℕ} (hk : k < 36) (hu : used c k = false) (r : ℕ) : (Rd (F := F) m).duties (dcell c k) r = ∅ := by
  dsimp only [Rd]
  rw [ds_val hk, hu]; simp
/-- There is no duty after the first round. -/
theorem duties_later (g : GSem nD τ sig) : ∀ r, 1 ≤ r → (Rd (F := F) m).duties g r = ∅ :=
  fun r hr => if_neg fun h => by omega

/-- An entry signal counts one. -/
theorem amount_bar (d : Dev nD) : (Rd (F := F) m).amount (bcell c) 0 d = 1 := rfl
/-- What a copy counts on its semaphore. -/
theorem amount_dma {k : ℕ} (hk : k < 36) (d : Dev nD) : (Rd (F := F) m).amount (dcell c k) 0 d = amt k := by
  show amt (ds k).val = amt k; rw [ds_val hk]
/-- An entry semaphore is raised to five. -/
theorem expect_bar : (Rd (F := F) m).expect (bcell c) 0 = 5 := by
  unfold Schedule.expect Schedule.amountOf
  rw [duties_bar]
  simp only [amount_bar, Finset.sum_const, nbrs_card, smul_eq_mul, mul_one]
/-- A DMA semaphore is raised by one copy. -/
theorem expect_dma {k : ℕ} (hk : k < 36) (hu : used c k = true) : (Rd (F := F) m).expect (dcell c k) 0 = amt k := by
  unfold Schedule.expect Schedule.amountOf; rw [duties_dma m c hk hu, Finset.sum_singleton, amount_dma m c hk]
/-- What an entry signal hands over. -/
theorem payload_bar (d : Dev nD) : (Rd (F := F) m).payload (bcell c) 0 d = barPay c d := rfl
/-- What the end of a copy hands over. -/
theorem payload_dma {k : ℕ} (hk : k < 36) (d : Dev nD) : (Rd (F := F) m).payload (dcell c k) 0 d = dmaPay m c k := by
  show dmaPay m c (ds k).val = dmaPay m c k; rw [ds_val hk]
/-- A wait on a DMA semaphore gets what its one copy hands over. -/
theorem rest_dma {k : ℕ} (hk : k < 36) (hu : used c k = true) :
    bigSep ((Rd (F := F) m).duties (dcell c k) 0 \ ∅) (fun d => (Rd (F := F) m).payload (dcell c k) 0 d) = dmaPay m c k := by
  rw [Finset.sdiff_empty, duties_dma m c hk hu, bigSep_singleton, payload_dma m c hk]
/-- The wait on the entry semaphore gets what the five signals hand over. -/
theorem rest_bar : bigSep ((Rd (F := F) m).duties (bcell c) 0 \ ∅) (fun d => (Rd (F := F) m).payload (bcell c) 0 d) = bigSep (nbrs c) (barPay c) := by
  rw [Finset.sdiff_empty, duties_bar]; rfl

/-- The facts about the semaphore of the `j`-th send. -/
theorem sk_lt {j : ℕ} (hj : j < 15) : sk c j < 36 := by have := (sk_range c ⟨j, hj⟩).2; dsimp only at this; omega
/-- The semaphore of a send is waited for. -/
theorem sk_used {j : ℕ} (hj : j < 15) : used c (sk c j) = true := used_sk c ⟨j, hj⟩
/-- A send counts one block. -/
theorem sk_amt {j : ℕ} (hj : j < 15) : amt (sk c j) = N := amt_big (sk_range c ⟨j, hj⟩).1
/-- The end of a send hands back the share that it read. -/
theorem sk_pay {j : ℕ} (hj : j < 15) : dmaPay (F := F) m c (sk c j) = sendPay m c j := by
  have h := sk_range c ⟨j, hj⟩
  have h2 := jOf_sk c ⟨j, hj⟩
  dsimp only at h h2
  unfold dmaPay
  rw [if_neg (by omega), if_pos h.2, h2]

/-- The semaphores of the arrivals are among the 36. -/
theorem rk_lt (o : Dev nD) : rk o < 36 := by have : o.val < 16 := o.isLt; unfold rk; omega
/-- The semaphore of the arrival of another device's block is waited for. -/
theorem rk_used {o : Dev nD} (h : o ≠ c) : used c (rk o) = true := used_rk c o h
/-- An arrival counts one block. -/
theorem rk_amt (o : Dev nD) : amt (rk o) = N := amt_big (by unfold rk; omega)
/-- An arrival hands over the block, filled. -/
theorem rk_pay (o : Dev nD) : dmaPay (F := F) m c (rk o) = recvPay m c o := by
  unfold dmaPay rk
  rw [if_neg (by omega), if_neg (by omega)]
  congr 1
  exact Fin.ext (by show (19 + o.val - 19) % 16 = o.val; have : o.val < 16 := o.isLt; omega)
/-- The semaphores of the local copies are waited for. -/
theorem cp_used {k : ℕ} (h : k < 3) : used c k = true := by unfold used; exact decide_eq_true (Or.inl h)
/-- What the end of a local copy hands back. -/
theorem cp_pay {k : ℕ} (h : k < 3) : dmaPay (F := F) m c k = copyPay m c k := by unfold dmaPay; rw [if_pos h]

end Sched

/-! ## What each device owes, and the order of waits -/

/-- The arrivals device `c` still owes once it has started `n` sends. -/
def tot (c : Dev nD) (n : ℕ) : CellTallies nD τ sig Unit := ∑ j ∈ Finset.Ico n 15, tallyAt (dcell (sd c j) (rk (sb c j))) () N
/-- The entry signals device `c` still owes once it has given `n`. -/
def barOwe (c : Dev nD) (n : ℕ) : CellTallies nD τ sig Unit := ∑ i ∈ Finset.Ico n 5, tallyAt (bcell (nb c i)) () 1
/-- What device `c` owes at the start. -/
def O₀ (c : Dev nD) : CellTallies nD τ sig Unit := tot c 0 + barOwe c 0

/-- A range without its first number. -/
theorem Ico_first {n k : ℕ} (h : n < k) : Finset.Ico n k = insert n (Finset.Ico (n + 1) k) := by
  ext x; simp only [Finset.mem_Ico, Finset.mem_insert]; omega
/-- The first number is not in the rest of the range. -/
theorem first_notMem (n k : ℕ) : n ∉ Finset.Ico (n + 1) k := by simp
/-- A send pays one of the arrivals owed. -/
theorem tot_succ (c : Dev nD) {n : ℕ} (h : n < 15) : tot c n = tot c (n + 1) + tallyAt (dcell (sd c n) (rk (sb c n))) () N := by
  unfold tot; rw [Ico_first h, Finset.sum_insert (first_notMem _ _), add_comm]
/-- After fifteen sends no arrival is owed. -/
theorem tot_end (c : Dev nD) : tot c 15 = 0 := rfl
/-- An entry signal pays one of those owed. -/
theorem barOwe_succ (c : Dev nD) {n : ℕ} (h : n < 5) : barOwe c n = barOwe c (n + 1) + tallyAt (bcell (nb c n)) () 1 := by
  unfold barOwe; rw [Ico_first h, Finset.sum_insert (first_notMem _ _), add_comm]
/-- After five entry signals none is owed. -/
theorem barOwe_end (c : Dev nD) : barOwe c 5 = 0 := rfl

/-- The devices' own threads have levels, and no others. -/
def L (g : GSem nD τ sig) : Finset Unit := if g.1.2 = .tc then {()} else ∅
/-- The level of a semaphore: copies and sends 0, entry 1, arrivals 2 to 4. -/
def lv (g : GSem nD τ sig) (_ : Unit) : ℕ := match g.2 with
  | .reg _ => 1
  | .dma k => lvk g.1.1 k.val
/-- Only the devices' own threads have levels. -/
theorem L_of_ne (g : GSem nD τ sig) (h : g.1.2 ≠ .tc) : L g = ∅ := if_neg h
/-- The semaphores of a device's own thread have a level. -/
theorem L_tc (c : Dev nD) (sm : SemLoc sig) : L ((c : Thread nD τ), sm) = {()} := if_pos rfl
/-- The level of a DMA semaphore. -/
theorem lv_dma (c : Dev nD) {k : ℕ} (hk : k < 36) (u : Unit) : lv (dcell c k) u = lvk c k := by
  show lvk c (ds k).val = _; rw [ds_val hk]

/-- A sum of debts, read at one semaphore. -/
theorem sum_tally_apply {ι : Type} (s : Finset ι) (f : ι → CellTallies nD τ sig Unit) (g : GSem nD τ sig) (u : Unit) :
    (∑ j ∈ s, f j) g u = ∑ j ∈ s, f j g u := by
  rw [Finset.sum_apply]; exact Finsupp.finset_sum_apply s (fun j => f j g) u

/-- An arrival still owed is that of a send not yet started. -/
theorem tot_pos {c : Dev nD} {n : ℕ} {g : GSem nD τ sig} {u : Unit} (h : 0 < tot c n g u) :
    ∃ j, n ≤ j ∧ j < 15 ∧ g = dcell (sd c j) (rk (sb c j)) := by
  unfold tot at h
  rw [sum_tally_apply] at h
  obtain ⟨j, hj, h1⟩ := Finset.exists_ne_zero_of_sum_ne_zero (Nat.pos_iff_ne_zero.mp h)
  refine ⟨j, (Finset.mem_Ico.mp hj).1, (Finset.mem_Ico.mp hj).2, ?_⟩
  by_contra hn
  exact h1 (by rw [tallyAt_apply, if_neg fun h' => hn h'.1])

/-- An entry signal still owed is owed to one of the five devices. -/
theorem barOwe_pos {c : Dev nD} {n : ℕ} {g : GSem nD τ sig} {u : Unit} (h : 0 < barOwe c n g u) : ∃ i, i < 5 ∧ g = bcell (nb c i) := by
  unfold barOwe at h
  rw [sum_tally_apply] at h
  obtain ⟨j, hj, h1⟩ := Finset.exists_ne_zero_of_sum_ne_zero (Nat.pos_iff_ne_zero.mp h)
  refine ⟨j, (Finset.mem_Ico.mp hj).2, ?_⟩
  by_contra hn
  exact h1 (by rw [tallyAt_apply, if_neg fun h' => hn h'.1])

/-- The level of the arrival caused by the `j`-th send. -/
def slv (j : ℕ) : ℕ := if j < 3 then 2 else if j < 11 then 3 else 4
/-- The level of the arrival that a send causes. -/
theorem lv_send (c : Dev nD) {j : ℕ} (hj : j < 15) (u : Unit) : lv (dcell (sd c j) (rk (sb c j))) u = slv j := by
  rw [lv_dma _ (rk_lt _)]; exact lvk_send c ⟨j, hj⟩
/-- The level of the `i`-th arrival. -/
def rlv (i : ℕ) : ℕ := if i < 4 then 2 else if i < 12 then 3 else 4
/-- The level of an arrival. -/
theorem lv_recv (c : Dev nD) {i : ℕ} (hi : i < 16) (u : Unit) : lv (dcell c (rk (blk c i))) u = rlv i := by
  rw [lv_dma _ (rk_lt _)]; exact lvk_recv c ⟨i, hi⟩

omit [FloatOps F] in
/-- A device that has started `n` sends may wait for anything below the levels of the arrivals it still owes. -/
theorem mayWait (c : Dev nD) (sm : SemLoc sig) (n : ℕ) (h : ∀ j, n ≤ j → j < 15 → lv ((c : Thread nD τ), sm) () < slv j) :
    (levAts L lv : sProp 𝕄) ⊢ MayWait (c : Thread nD τ) sm () (tot c n) :=
  MayOwe.of_cut (L := L) (lev := lv) (lv ((c : Thread nD τ), sm) ()) (fun p hp => by rw [Finset.mem_singleton.mp hp, L_tc]; exact Finset.mem_singleton_self _)
    (fun g u hg => by obtain ⟨j, -, -, rfl⟩ := tot_pos hg; exact Finset.mem_singleton_self _)
    (fun p hp => by rw [Finset.mem_singleton.mp hp])
    (fun g u hg => by obtain ⟨j, h1, h2, rfl⟩ := tot_pos hg; rw [lv_send c h2]; exact h j h1 h2)

end Cert.KernelIdeal.Gather

end

end
-- ==== Proof.KernelIdeal.Steps.lean ====
/-
# The steps of the main phase

After its own block is in place and the entry semaphore has been waited for, a device only does seven kinds of things: it
starts a send, waits for an arrival, waits for a send, and loads or stores a block. Where it stands is told by four
numbers — sends started, blocks at hand, blocks of the result done, sends waited for — and each kind of step moves one of
them. Each is proved once, for every step number and every device.
-/
module

public import proofs.«01_k».proof.Proof.KernelIdeal.Proto
public import Idealize.SL.BI.BigOpNat
public meta import Mathlib.Tactic.IntervalCases

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All the cells -/

/-- The semaphores of one device: the DMA ones and the entry one. -/
abbrev KI : Type := Fin 36 ⊕ Unit
/-- Semaphore `i` of a device. -/
def ksem : KI → SemLoc sig
  | .inl k => .dma k
  | .inr _ => .reg barS
/-- A semaphore of a device, from its place in the list. -/
abbrev kcell (p : Dev nD × KI) : GSem nD τ sig := ((p.1 : Thread nD τ), ksem p.2)

/-- Every semaphore of every device is under the schedule, and has reached its round. -/
def records (K : Dev nD × KI → ℕ) : sProp 𝕄 :=
  bigSep Finset.univ fun p : Dev nD × KI => iprop(cellInv ER (Rd m) (K p) (kcell p) ∗ reached ER (kcell p) 0)

instance records_persistent (K : Dev nD × KI → ℕ) : BI.Persistent (records (F := F) m K) := by unfold records; infer_instance

/-- The name of DMA semaphore `k` of device `c`. -/
abbrev Kd (K : Dev nD × KI → ℕ) (c : Dev nD) (k : ℕ) : ℕ := K (c, .inl (ds k))
/-- The name of the entry semaphore of device `c`. -/
abbrev Kb (K : Dev nD × KI → ℕ) (c : Dev nD) : ℕ := K (c, .inr ())

variable (K : Dev nD × KI → ℕ)

/-- From the records, that of one DMA semaphore. -/
theorem rec_dma (c : Dev nD) (k : ℕ) : records (F := F) m K ⊢ iprop(cellInv ER (Rd m) (Kd K c k) (dcell c k) ∗ reached ER (dcell c k) 0) :=
  bigSep_elim (i := ((c, .inl (ds k)) : Dev nD × KI)) (Finset.mem_univ _)
/-- From the records, that of one entry semaphore. -/
theorem rec_bar (c : Dev nD) : records (F := F) m K ⊢ iprop(cellInv ER (Rd m) (Kb K c) (bcell c) ∗ reached ER (bcell c) 0) :=
  bigSep_elim (i := ((c, .inr ()) : Dev nD × KI)) (Finset.mem_univ _)

/-! ## What a device holds -/

section State
variable (c : Dev nD)

/-- What the `j`-th send needs besides the block: the right to raise both semaphores, the own semaphore unwaited, the
    place to fill. -/
def ToSend (j : ℕ) : sProp 𝕄 :=
  iprop(dutyTok ER (dcell c (sk c j)) 0 0 ∗ dutyTok ER (dcell (sd c j) (rk (sb c j))) 0 0 ∗ atPos ER (dcell c (sk c j)) 0 ∅ 0
    ∗ ∃ f, gRow (F := F) (sd c j) (sb c j) fullShare f)
/-- A send under way. -/
def Flight (j : ℕ) : sProp 𝕄 := iprop(cred (tallyAt (dcell c (sk c j)) () N) ∗ atPos ER (dcell c (sk c j)) 0 ∅ 0)
/-- A send waited for. -/
def Landed (j : ℕ) : sProp 𝕄 := iprop(sendPay m c j ∗ atPos ER (dcell c (sk c j)) 1 ∅ 0)
/-- An arrival to wait for. -/
def ToRecv (i : ℕ) : sProp 𝕄 := iprop(cred (tallyAt (dcell c (rk (blk c i))) () N) ∗ atPos ER (dcell c (rk (blk c i))) 0 ∅ 0)
/-- An arrival waited for. -/
def RDone (i : ℕ) : sProp 𝕄 := atPos ER (dcell c (rk (blk c i))) 1 ∅ 0
/-- The share of a block at hand that is kept to compute with. -/
def Keep (i : ℕ) : sProp 𝕄 := gRow c (blk c i) (kp i) (XG m)
/-- A block of the result not yet computed. -/
def YTodo (i : ℕ) : sProp 𝕄 := iprop(∃ f, yRow (F := F) c (blk c i) f)
/-- A block of the result computed. -/
def YDone (i : ℕ) : sProp 𝕄 := yRow c (blk c i) (YF m c)

omit [FloatOps F] in
/-- What a send needs, written out. -/
theorem ToSend_def (j : ℕ) : ToSend (F := F) c j = iprop(dutyTok ER (dcell c (sk c j)) 0 0 ∗ dutyTok ER (dcell (sd c j) (rk (sb c j))) 0 0
    ∗ atPos ER (dcell c (sk c j)) 0 ∅ 0 ∗ ∃ f, gRow (F := F) (sd c j) (sb c j) fullShare f) := rfl
omit [FloatOps F] in
/-- A send under way, written out. -/
theorem Flight_def (j : ℕ) : Flight (F := F) c j = iprop(cred (tallyAt (dcell c (sk c j)) () N) ∗ atPos ER (dcell c (sk c j)) 0 ∅ 0) := rfl
omit [FloatOps F] in
/-- An arrival to wait for, written out. -/
theorem ToRecv_def (i : ℕ) : ToRecv (F := F) c i
    = iprop(cred (tallyAt (dcell c (rk (blk c i))) () N) ∗ atPos ER (dcell c (rk (blk c i))) 0 ∅ 0) := rfl
omit [FloatOps F] in
/-- A block of the result not yet computed, written out. -/
theorem YTodo_def (i : ℕ) : YTodo (F := F) c i = iprop(∃ f, yRow (F := F) c (blk c i) f) := rfl
omit [FloatOps F] in
/-- One holding taken out of a set of them. -/
theorem take_one (s : Finset ℕ) {i : ℕ} (hi : i ∈ s) (A : ℕ → sProp 𝕄) : bigSep s A = iprop(A i ∗ bigSep (s.erase i) A) := bigSep_erase hi

/-- Device `c` after `ns` sends started, `nr` blocks at hand, `ny` blocks of the result done, `nw` sends waited for, with
    `R` beside. -/
def St (ns nr ny nw : ℕ) (R : sProp 𝕄) : sProp 𝕄 :=
  iprop(records m K ∗ levAts L lv ∗ (∃ W, owes (c : Thread nD τ) (tot c ns) W)
    ∗ bigSep (Finset.Ico ns 15) (ToSend c) ∗ bigSep (Finset.Ico ns (nf nr)) (sendPay m c)
    ∗ bigSep (Finset.Ico nw ns) (Flight c) ∗ bigSep (Finset.Ico 0 nw) (Landed m c)
    ∗ bigSep (Finset.Ico nr 16) (ToRecv c) ∗ bigSep (Finset.Ico 1 nr) (RDone c) ∗ bigSep (Finset.Ico 0 nr) (Keep m c)
    ∗ bigSep (Finset.Ico ny 16) (YTodo c) ∗ bigSep (Finset.Ico 0 ny) (YDone m c)
    ∗ whole c cc0_scratch2 (wb m c) ∗ R)

omit [FloatOps F] in
/-- A block cut into two shares. -/
theorem gRow_cut (o : Dev nD) (q : PosShare TreeShare) (f) :
    (gRow (F := F) c o q f : sProp 𝕄) ⊣⊢ iprop(gRow c o q.left f ∗ gRow c o q.right f) :=
  pointsTo_share (PosShare.mem_left_op_right q)

omit [FloatOps F] in
/-- A share of a block is its two halves. -/
theorem gRow_cut_eq (o : Dev nD) (q : PosShare TreeShare) (f) :
    (gRow (F := F) c o q f : sProp 𝕄) = iprop(gRow c o q.left f ∗ gRow c o q.right f) := BI.Entails.antisymm (gRow_cut c o q f).1 (gRow_cut c o q f).2

omit [FloatOps F] in
/-- Over no numbers nothing is held. -/
theorem Ico_nil {A : ℕ → sProp 𝕄} (n : ℕ) : bigSep (Finset.Ico n n) A = iprop(emp) := by
  rw [Finset.Ico_self, bigSep_empty]; rfl

omit [FloatOps F] in
/-- A run of numbers cut in two. -/
theorem Ico_cut {a b d : ℕ} (hab : a ≤ b) (hbd : b ≤ d) (A : ℕ → sProp 𝕄) :
    bigSep (Finset.Ico a d) A = iprop(bigSep (Finset.Ico a b) A ∗ bigSep (Finset.Ico b d) A) := by
  rw [show Finset.Ico a d = Finset.Ico a b ∪ Finset.Ico b d by ext x; simp only [Finset.mem_Ico, Finset.mem_union]; omega,
    bigSep_union (Finset.disjoint_left.mpr fun x h h' => by rw [Finset.mem_Ico] at h h'; omega)]
  rfl

/-- A block that has arrived is the share kept and the shares of the sends it is for. -/
theorem block_split {i : ℕ} (hi : i < 16) :
    gRow c (blk c i) fullShare (XG m) ⊣⊢ iprop(Keep m c i ∗ bigSep (Finset.Ico (nf i) (nf (i + 1))) (sendPay m c)) := by
  have two : ∀ j, sh j = fullShare.left.left → sh (j + 1) = fullShare.left.right → sb c j = blk c i → sb c (j + 1) = blk c i → kp i = fullShare.right →
      (gRow c (blk c i) fullShare (XG m) ⊣⊢ iprop(Keep m c i ∗ bigSep (Finset.Ico j (j + 2)) (sendPay m c))) := by
    intro j h1 h2 h3 h4 h5
    rw [bigSep_Ico_succ_bot (by omega), bigSep_Ico_succ_bot (by omega), Ico_nil]
    unfold Keep sendPay
    rw [h1, h2, h3, h4, h5, gRow_cut_eq c _ fullShare, gRow_cut_eq c _ fullShare.left]
    constructor
    · iintro ⟨⟨H1, H2⟩, H3⟩
      isplitl [H3]; · iexact H3
      isplitl [H1]; · iexact H1
      isplitl [H2]; · iexact H2
      iempintro
    · iintro ⟨H3, H1, H2, -⟩
      isplitl [H1 H2]
      · isplitl [H1] <;> iassumption
      iexact H3
  have one : ∀ j, sh j = fullShare.left → sb c j = blk c i → kp i = fullShare.right →
      (gRow c (blk c i) fullShare (XG m) ⊣⊢ iprop(Keep m c i ∗ bigSep (Finset.Ico j (j + 1)) (sendPay m c))) := by
    intro j h1 h2 h3
    rw [bigSep_Ico_one]
    unfold Keep sendPay
    rw [h1, h2, h3, gRow_cut_eq c _ fullShare]
    constructor
    · iintro ⟨H1, H2⟩
      isplitl [H2] <;> iassumption
    · iintro ⟨H1, H2⟩
      isplitl [H2] <;> iassumption
  have none : ∀ j, kp i = fullShare →
      (gRow c (blk c i) fullShare (XG m) ⊣⊢ iprop(Keep m c i ∗ bigSep (Finset.Ico j j) (sendPay m c))) := by
    intro j h
    rw [Ico_nil]
    unfold Keep
    rw [h]
    constructor
    · iintro H
      isplitl [H]; · iexact H
      iempintro
    · iintro ⟨H, -⟩
      iexact H
  interval_cases i
  · rw [show nf 0 = 0 from rfl, show nf (0 + 1) = 5 from rfl, bigSep_Ico_succ_bot (by omega), bigSep_Ico_succ_bot (by omega), bigSep_Ico_succ_bot (by omega),
      bigSep_Ico_succ_bot (by omega), bigSep_Ico_succ_bot (by omega), Ico_nil]
    unfold Keep sendPay
    rw [show sb c 0 = blk c 0 from rfl, show sb c (0 + 1) = blk c 0 from rfl, show sb c (0 + 1 + 1) = blk c 0 from rfl,
      show sb c (0 + 1 + 1 + 1) = blk c 0 from rfl, show sb c (0 + 1 + 1 + 1 + 1) = blk c 0 from rfl]
    rw [gRow_cut_eq c _ fullShare, gRow_cut_eq c _ fullShare.left, gRow_cut_eq c _ fullShare.right, gRow_cut_eq c _ fullShare.right.left,
      gRow_cut_eq c _ fullShare.right.right]
    constructor
    · iintro ⟨⟨H1, H2⟩, ⟨H3, H4⟩, H5, H6⟩
      isplitl [H6]; · iexact H6
      isplitl [H3]; · iexact H3
      isplitl [H4]; · iexact H4
      isplitl [H5]; · iexact H5
      isplitl [H1]; · iexact H1
      isplitl [H2]; · iexact H2
      iempintro
    · iintro ⟨H6, H3, H4, H5, H1, H2, -⟩
      isplitl [H1 H2]
      · isplitl [H1]; · iexact H1
        iexact H2
      isplitl [H3 H4]
      · isplitl [H3]; · iexact H3
        iexact H4
      isplitl [H5]; · iexact H5
      iexact H6
  · exact two 5 rfl rfl rfl rfl rfl
  · exact two 7 rfl rfl rfl rfl rfl
  · exact two 9 rfl rfl rfl rfl rfl
  · exact one 11 rfl rfl rfl
  · exact one 12 rfl rfl rfl
  · exact one 13 rfl rfl rfl
  · exact one 14 rfl rfl rfl
  all_goals exact none 15 rfl

/-- Each block that arrives makes more sends possible, fifteen at most. -/
theorem nf_mono (i : ℕ) (hi : i < 16) : nf i ≤ nf (i + 1) ∧ nf (i + 1) ≤ 15 := by interval_cases i <;> decide

end State

/-! ## The steps -/

section Steps
variable (c : Dev nD) {α : Type} {ns nr ny nw : ℕ}

/-- What a program of device `c` is proved to end in. -/
abbrev Goes (p : Prog (TpuEff nD τ sig (Elt F) Λ₀ .tc) α) (Q : α → sProp 𝕄) : sProp 𝕄 :=
  wp frame (wpE (defs₀ (F := F)) 𝒱₀ (c : Thread nD τ) none) Set.univ p Q

/-- Starting a send. -/
theorem step_send {Q : α → sProp 𝕄} {R : sProp 𝕄} {k : PUnit → Prog (TpuEff nD τ sig (Elt F) Λ₀ .tc) α}
    {p : Dev nD} {sS sR : DmaSem sig} {off : Fin 2 → ℕ} {inb : ∀ a, off a + S64x1024.size a ≤ S1024x1024.size a}
    (hns : ns < 15) (hnf : ns < nf nr) (hnw : nw ≤ ns)
    (hp : p = sd c ns) (hS : sS.val = sk c ns) (hR : sR.val = rk (sb c ns)) (hoff : off = rowAt (sb c ns))
    {hsc : (gV.slice (Rect.unit (s := S1024x1024) off S64x1024.size inb) (fun _ => rfl) : Memref sig (Dev.tc p : Thread nD τ).2.kind .vmem S64x1024 .bf16).view.ref.isScScratch = false}
    {hsrc hdst : (gV.slice (Rect.unit (s := S1024x1024) off S64x1024.size inb) (fun _ => rfl)).view.WordExact}
    {hsem : DmaTarget.Typed .vmem (.dma sR) (.remote (Dev.tc p : Thread nD τ) (gV.slice (Rect.unit (s := S1024x1024) off S64x1024.size inb) (fun _ => rfl)) (.dma sS) hsc)}
    (h : St m K c (ns + 1) nr ny nw R ⊢ Goes c (k ⟨⟩) Q) :
    St m K c ns nr ny nw R ⊢ Goes c (.op (.enqueueDma (gV.slice (Rect.unit (s := S1024x1024) off S64x1024.size inb) (fun _ => rfl))
      (.remote (Dev.tc p : Thread nD τ) (gV.slice (Rect.unit (s := S1024x1024) off S64x1024.size inb) (fun _ => rfl)) (.dma sS) hsc)
      (.dma sR) hsrc hdst hsem) k) Q := by
  subst hoff hp
  obtain rfl := ds_of_val hS
  obtain rfl := ds_of_val hR
  have hne : sb c ns ≠ sd c ns := sd_ne c ⟨ns, hns⟩
  unfold St
  rw [bigSep_Ico_succ_bot hns, bigSep_Ico_succ_bot hnf, ToSend_def c ns]
  iintro ⟨#Hrec, #Hlev, ⟨%W, HO⟩, ⟨⟨HtS, HtR, HatS, ⟨%fd, Hd⟩⟩, HTS⟩, ⟨Hsrc, HSP⟩, HFl, HLd, HTR, HRD, HK, HYT, HYD, Hw, HR⟩
  ihave #HS := (rec_dma m K c (sk c ns)) $$ Hrec
  ihave #HV := (rec_dma m K (sd c ns) (rk (sb c ns))) $$ Hrec
  icases HS with ⟨#HIS, #HrS⟩
  icases HV with ⟨#HIV, #HrV⟩
  unfold sendPay gRow
  rw [← gM_set]
  iapply (Rounds.wp_send_pointsTo 𝒱₀ ER (Rd m) (c : Thread nD τ) none (κ₁ := Kd K c (sk c ns)) (κ₂ := Kd K (sd c ns) (rk (sb c ns)))
      (src := gM (sb c ns)) (dst := gM (sb c ns)) (c' := (sd c ns : Thread nD τ))
      (r₁ := 0) (r₂ := 0) (d₁ := 0) (d₂ := 0) (fd := fd)
      (by rw [duties_dma m c (sk_lt c hns) (sk_used c hns)]; exact Finset.mem_singleton_self _)
      (by rw [duties_dma m (sd c ns) (rk_lt _) (rk_used _ hne)]; exact Finset.mem_singleton_self _)
      () () N rfl ((amount_dma m c (sk_lt c hns) 0).trans (sk_amt c hns)) ((amount_dma m (sd c ns) (rk_lt _) 0).trans (rk_amt _))
      (tot c (ns + 1)) (tot_succ c hns) (W := W)
      (by rw [payload_dma m c (sk_lt c hns), sk_pay m c hns]; unfold sendPay gRow; rw [← gM_set])
      (by
        rw [payload_dma m (sd c ns) (rk_lt _), rk_pay]; unfold recvPay gRow
        rw [gM_set]
        exact Entails.of_eq (pointsTo_congr (copy_XG (sb c ns) fd (XG m))))) $$ [HtS HtR Hd Hsrc HO]
  · isplitr; · iexact HIS
    isplitr; · iexact HIV
    isplitl [Hsrc]; · iexact Hsrc
    isplitl [Hd]; · iexact Hd
    isplitl [HO]; · iexact HO
    isplitl [HtS]; · iexact HtS
    isplitr; · iexact HrS
    isplitl [HtR]; · iexact HtR
    iexact HrV
  iintro ⟨Hcr, HO⟩
  iapply h
  unfold St
  rw [bigSep_Ico_succ_top hnw, Flight_def c ns]
  isplitr; · iexact Hrec
  isplitr; · iexact Hlev
  isplitl [HO]; · iexists W; iexact HO
  isplitl [HTS]; · iexact HTS
  isplitl [HSP]; · iexact HSP
  isplitl [Hcr HatS HFl]
  · isplitl [Hcr HatS]
    · isplitl [Hcr] <;> iassumption
    iexact HFl
  isplitl [HLd]; · iexact HLd
  isplitl [HTR]; · iexact HTR
  isplitl [HRD]; · iexact HRD
  isplitl [HK]; · iexact HK
  isplitl [HYT]; · iexact HYT
  isplitl [HYD]; · iexact HYD
  isplitl [Hw]; · iexact Hw
  iexact HR

/-- Waiting for an arrival. -/
theorem step_recv {Q : α → sProp 𝕄} {R : sProp 𝕄} {k : PUnit → Prog (TpuEff nD τ sig (Elt F) Λ₀ .tc) α}
    {sR : DmaSem sig} {off : Fin 2 → ℕ} {inb : ∀ a, off a + S64x1024.size a ≤ S1024x1024.size a}
    (hnr : nr < 16) (h1 : 1 ≤ nr) (hns : ns ≤ nf nr) (hlv : ∀ j, ns ≤ j → j < 15 → rlv nr < slv j)
    (hR : sR.val = rk (blk c nr)) (hoff : off = rowAt (blk c nr))
    {hsrc hdst : (gV.slice (Rect.unit (s := S1024x1024) off S64x1024.size inb) (fun _ => rfl)).view.WordExact}
    (h : St m K c ns (nr + 1) ny nw R ⊢ Goes c (k ⟨⟩) Q) :
    St m K c ns nr ny nw R ⊢ Goes c (.op (.waitDma2 sR (gV.slice (Rect.unit (s := S1024x1024) off S64x1024.size inb) (fun _ => rfl))
      (gV.slice (Rect.unit (s := S1024x1024) off S64x1024.size inb) (fun _ => rfl)) hsrc hdst) k) Q := by
  subst hoff
  obtain rfl := ds_of_val hR
  have hne : blk c nr ≠ c := blk_ne c ⟨nr, hnr⟩ h1
  unfold St
  rw [bigSep_Ico_succ_bot hnr, ToRecv_def c nr]
  iintro ⟨#Hrec, #Hlev, ⟨%W, HO⟩, HTS, HSP, HFl, HLd, ⟨⟨Hcr, Hat⟩, HTR⟩, HRD, HK, HYT, HYD, Hw, HR⟩
  ihave #HV := (rec_dma m K c (rk (blk c nr))) $$ Hrec
  icases HV with ⟨#HIV, #HrV⟩
  iapply (Rounds.wp_wait_rest_token 𝒱₀ ER (Rd m) (c : Thread nD τ) none (κ := Kd K c (rk (blk c nr)))
      (wpE_waitDma2_eq 𝒱₀ (c : Thread nD τ) none Set.univ) (Set.mem_univ _) () (O := tot c ns) (W := W) (R := 0) (m := 0) (T := ∅)
      (by rw [Nat.zero_add, expect_dma m c (rk_lt _) (rk_used _ hne), rk_amt]; rfl)) $$ [Hcr Hat HO]
  · isplitr; · iexact HIV
    isplitl [Hcr]; · iexact Hcr
    isplitl [HO]; · iexact HO
    isplitr; · iapply (mayWait c _ ns fun j h2 h3 => by rw [lv_recv c hnr]; exact hlv j h2 h3); iexact Hlev
    iexact Hat
  iintro ⟨HO, Hat, -, Hpay⟩
  ihave Hp := (Entails.of_eq ((rest_dma m c (rk_lt _) (rk_used _ hne)).trans (rk_pay m c (blk c nr)))) $$ Hpay
  unfold recvPay
  ihave Hq := (block_split m c hnr).1 $$ Hp
  icases Hq with ⟨Hk, Hs⟩
  iapply h
  unfold St
  rw [bigSep_Ico_succ_top h1, bigSep_Ico_succ_top (Nat.zero_le nr), Ico_cut hns (nf_mono nr hnr).1]
  isplitr; · iexact Hrec
  isplitr; · iexact Hlev
  isplitl [HO]; · iexists _; iexact HO
  isplitl [HTS]; · iexact HTS
  isplitl [HSP Hs]; · isplitl [HSP] <;> iassumption
  isplitl [HFl]; · iexact HFl
  isplitl [HLd]; · iexact HLd
  isplitl [HTR]; · iexact HTR
  isplitl [HRD Hat]
  · isplitl [Hat]
    · unfold RDone; iexact Hat
    iexact HRD
  isplitl [HK Hk]
  · isplitl [Hk] <;> iassumption
  isplitl [HYT]; · iexact HYT
  isplitl [HYD]; · iexact HYD
  isplitl [Hw]; · iexact Hw
  iexact HR

/-- Waiting for a send, once all have been started. -/
theorem step_sent {Q : α → sProp 𝕄} {R : sProp 𝕄} {k : PUnit → Prog (TpuEff nD τ sig (Elt F) Λ₀ .tc) α}
    {sS : DmaSem sig} {off : Fin 2 → ℕ} {inb : ∀ a, off a + S64x1024.size a ≤ S1024x1024.size a}
    (hnw : nw < 15) (hS : sS.val = sk c nw)
    {hsrc hdst : (gV.slice (Rect.unit (s := S1024x1024) off S64x1024.size inb) (fun _ => rfl)).view.WordExact}
    (h : St m K c 15 nr ny (nw + 1) R ⊢ Goes c (k ⟨⟩) Q) :
    St m K c 15 nr ny nw R ⊢ Goes c (.op (.waitDma2 sS (gV.slice (Rect.unit (s := S1024x1024) off S64x1024.size inb) (fun _ => rfl))
      (gV.slice (Rect.unit (s := S1024x1024) off S64x1024.size inb) (fun _ => rfl)) hsrc hdst) k) Q := by
  obtain rfl := ds_of_val hS
  unfold St
  rw [bigSep_Ico_succ_bot hnw, Flight_def c nw]
  iintro ⟨#Hrec, #Hlev, ⟨%W, HO⟩, HTS, HSP, ⟨⟨Hcr, Hat⟩, HFl⟩, HLd, HTR, HRD, HK, HYT, HYD, Hw, HR⟩
  ihave #HV := (rec_dma m K c (sk c nw)) $$ Hrec
  icases HV with ⟨#HIV, #HrV⟩
  iapply (Rounds.wp_wait_rest_token 𝒱₀ ER (Rd m) (c : Thread nD τ) none (κ := Kd K c (sk c nw))
      (wpE_waitDma2_eq 𝒱₀ (c : Thread nD τ) none Set.univ) (Set.mem_univ _) () (O := tot c 15) (W := W) (R := 0) (m := 0) (T := ∅)
      (by rw [Nat.zero_add, expect_dma m c (sk_lt c hnw) (sk_used c hnw), sk_amt c hnw]; rfl)) $$ [Hcr Hat HO]
  · isplitr; · iexact HIV
    isplitl [Hcr]; · iexact Hcr
    isplitl [HO]; · iexact HO
    isplitr; · iapply (mayWait c _ 15 fun j h2 h3 => by omega); iexact Hlev
    iexact Hat
  iintro ⟨HO, Hat, -, Hpay⟩
  ihave Hp := (Entails.of_eq ((rest_dma m c (sk_lt c hnw) (sk_used c hnw)).trans (sk_pay m c hnw))) $$ Hpay
  iapply h
  unfold St
  rw [bigSep_Ico_succ_top (Nat.zero_le nw)]
  isplitr; · iexact Hrec
  isplitr; · iexact Hlev
  isplitl [HO]; · iexists _; iexact HO
  isplitl [HTS]; · iexact HTS
  isplitl [HSP]; · iexact HSP
  isplitl [HFl]; · iexact HFl
  isplitl [HLd Hp Hat]
  · isplitl [Hp Hat]
    · unfold Landed; isplitl [Hp] <;> iassumption
    iexact HLd
  isplitl [HTR]; · iexact HTR
  isplitl [HRD]; · iexact HRD
  isplitl [HK]; · iexact HK
  isplitl [HYT]; · iexact HYT
  isplitl [HYD]; · iexact HYD
  isplitl [Hw]; · iexact Hw
  iexact HR

/-- Loading a block at hand. -/
theorem step_loadx {Q : α → sProp 𝕄} {R : sProp 𝕄} {off : Fin 2 → ℕ} {inb : ∀ a, off a + S64x1024.size a ≤ S1024x1024.size a}
    {hl : gV.view.LoadsAt (Rect.unit (s := S1024x1024) off S64x1024.size inb).toLoadRect}
    {k : ((Rect.unit (s := S1024x1024) off S64x1024.size inb).toLoadRect.shape.Idx → Elt F .bf16) → Prog (TpuEff nD τ sig (Elt F) Λ₀ .tc) α}
    (i : ℕ) (hi : i < nr) (hoff : off = rowAt (blk c i))
    (h : St m K c ns nr ny nw R ⊢ Goes c (k (xb m (blk c i))) Q) :
    St m K c ns nr ny nw R ⊢ Goes c (.op (.load gV (Rect.unit (s := S1024x1024) off S64x1024.size inb).toLoadRect hl) k) Q := by
  subst hoff
  have hmem : i ∈ Finset.Ico 0 nr := Finset.mem_Ico.mpr ⟨Nat.zero_le _, hi⟩
  unfold St at h ⊢
  rw [take_one _ hmem (Keep m c)] at h ⊢
  iintro ⟨#Hrec, #Hlev, HO, HTS, HSP, HFl, HLd, HTR, HRD, ⟨Hk, HK⟩, HYT, HYD, Hw, HR⟩
  unfold Keep gRow
  iapply (wp_load 𝒱₀ (c : Thread nD τ) none Set.univ (m := gV) (by rw [gM_load])) $$ Hk
  iintro Hk
  rw [read_XG]
  iapply h
  isplitr; · iexact Hrec
  isplitr; · iexact Hlev
  isplitl [HO]; · iexact HO
  isplitl [HTS]; · iexact HTS
  isplitl [HSP]; · iexact HSP
  isplitl [HFl]; · iexact HFl
  isplitl [HLd]; · iexact HLd
  isplitl [HTR]; · iexact HTR
  isplitl [HRD]; · iexact HRD
  isplitl [HK Hk]
  · isplitl [Hk]
    · unfold Keep gRow; iexact Hk
    iexact HK
  isplitl [HYT]; · iexact HYT
  isplitl [HYD]; · iexact HYD
  isplitl [Hw]; · iexact Hw
  iexact HR

/-- The offset zero, written out. -/
theorem hz : (![0, 0] : Fin 2 → ℕ) = fun _ => 0 := funext fun a => by fin_cases a <;> rfl

/-- Loading the right operand. -/
theorem step_loadw {Q : α → sProp 𝕄} {R : sProp 𝕄} {inb : ∀ a, (![0, 0] : Fin 2 → ℕ) a + S1024x64.size a ≤ S1024x64.size a}
    {hl : wV.view.LoadsAt (Rect.unit (s := S1024x64) ![0, 0] S1024x64.size inb).toLoadRect}
    {k : ((Rect.unit (s := S1024x64) ![0, 0] S1024x64.size inb).toLoadRect.shape.Idx → Elt F .bf16) → Prog (TpuEff nD τ sig (Elt F) Λ₀ .tc) α}
    (h : St m K c ns nr ny nw R ⊢ Goes c (k (wb m c)) Q) :
    St m K c ns nr ny nw R ⊢ Goes c (.op (.load wV (Rect.unit (s := S1024x64) ![0, 0] S1024x64.size inb).toLoadRect hl) k) Q := by
  unfold St at h ⊢
  iintro ⟨#Hrec, #Hlev, HO, HTS, HSP, HFl, HLd, HTR, HRD, HK, HYT, HYD, Hw, HR⟩
  unfold whole
  iapply (wp_load 𝒱₀ (c : Thread nD τ) none Set.univ (m := wV) (Finset.subset_univ _)) $$ Hw
  iintro Hw
  rw [show wV.view.readAt (Elt F) (Rect.unit (s := S1024x64) ![0, 0] S1024x64.size inb).toLoadRect (wb m c) = wb m c from
    Memref.readAt_unit_zero (Elt F) cc0_scratch2 hz _ _]
  iapply h
  isplitr; · iexact Hrec
  isplitr; · iexact Hlev
  isplitl [HO]; · iexact HO
  isplitl [HTS]; · iexact HTS
  isplitl [HSP]; · iexact HSP
  isplitl [HFl]; · iexact HFl
  isplitl [HLd]; · iexact HLd
  isplitl [HTR]; · iexact HTR
  isplitl [HRD]; · iexact HRD
  isplitl [HK]; · iexact HK
  isplitl [HYT]; · iexact HYT
  isplitl [HYD]; · iexact HYD
  isplitl [Hw]; · unfold whole; iexact Hw
  iexact HR

/-- Loading the place of a block of the result not yet computed; what stands there does not matter. -/
theorem step_loady {Q : α → sProp 𝕄} {R : sProp 𝕄} {off : Fin 2 → ℕ} {inb : ∀ a, off a + S64x64.size a ≤ S1024x64.size a}
    {hl : yV.view.LoadsAt (Rect.unit (s := S1024x64) off S64x64.size inb).toLoadRect}
    {k : ((Rect.unit (s := S1024x64) off S64x64.size inb).toLoadRect.shape.Idx → Elt F .f32) → Prog (TpuEff nD τ sig (Elt F) Λ₀ .tc) α}
    (hny : ny < 16) (hoff : off = rowAt (blk c ny))
    (h : ∀ v, St m K c ns nr ny nw R ⊢ Goes c (k v) Q) :
    St m K c ns nr ny nw R ⊢ Goes c (.op (.load yV (Rect.unit (s := S1024x64) off S64x64.size inb).toLoadRect hl) k) Q := by
  subst hoff
  unfold St at h ⊢
  rw [bigSep_Ico_succ_bot hny, YTodo_def c ny] at h ⊢
  iintro ⟨#Hrec, #Hlev, HO, HTS, HSP, HFl, HLd, HTR, HRD, HK, ⟨⟨%f, Hy⟩, HYT⟩, HYD, Hw, HR⟩
  unfold yRow
  iapply (wp_load 𝒱₀ (c : Thread nD τ) none Set.univ (m := yV) (by rw [yM_load])) $$ Hy
  iintro Hy
  iapply (h _)
  isplitr; · iexact Hrec
  isplitr; · iexact Hlev
  isplitl [HO]; · iexact HO
  isplitl [HTS]; · iexact HTS
  isplitl [HSP]; · iexact HSP
  isplitl [HFl]; · iexact HFl
  isplitl [HLd]; · iexact HLd
  isplitl [HTR]; · iexact HTR
  isplitl [HRD]; · iexact HRD
  isplitl [HK]; · iexact HK
  isplitl [HYT Hy]
  · isplitl [Hy]
    · unfold yRow; iexists f; iexact Hy
    iexact HYT
  isplitl [HYD]; · iexact HYD
  isplitl [Hw]; · iexact Hw
  iexact HR

/-- Storing a block of the result. -/
theorem step_storey {Q : α → sProp 𝕄} {R : sProp 𝕄} {off : Fin 2 → ℕ} {inb : ∀ a, off a + S64x64.size a ≤ S1024x64.size a}
    {w : (Rect.unit (s := S1024x64) off S64x64.size inb).shape.Idx → Elt F .f32}
    {hx : (yV.access (Rect.unit (s := S1024x64) off S64x64.size inb)).Stores Finset.univ}
    {hm : (Finset.univ : Finset (Rect.unit (s := S1024x64) off S64x64.size inb).shape.Idx) = Finset.univ
      ∨ ∀ a, (Rect.unit (s := S1024x64) off S64x64.size inb).stride a = 1}
    {k : PUnit → Prog (TpuEff nD τ sig (Elt F) Λ₀ .tc) α}
    (hny : ny < 16) (hoff : off = rowAt (blk c ny)) (hw : w = yb m c (blk c ny))
    (h : St m K c ns nr (ny + 1) nw R ⊢ Goes c (k ⟨⟩) Q) :
    St m K c ns nr ny nw R ⊢ Goes c (.op (.store yV (Rect.unit (s := S1024x64) off S64x64.size inb) w Finset.univ hx hm) k) Q := by
  subst hoff hw
  unfold St at h ⊢
  rw [bigSep_Ico_succ_bot hny, YTodo_def c ny]
  rw [bigSep_Ico_succ_top (Nat.zero_le ny)] at h
  iintro ⟨#Hrec, #Hlev, HO, HTS, HSP, HFl, HLd, HTR, HRD, HK, ⟨⟨%f, Hy⟩, HYT⟩, HYD, Hw, HR⟩
  unfold yRow
  iapply (wp_store 𝒱₀ (c : Thread nD τ) none Set.univ (m := yV) (r := yR (blk c ny)) (Mk := Finset.univ) (by rw [yM_access])) $$ Hy
  iintro Hy
  iapply h
  isplitr; · iexact Hrec
  isplitr; · iexact Hlev
  isplitl [HO]; · iexact HO
  isplitl [HTS]; · iexact HTS
  isplitl [HSP]; · iexact HSP
  isplitl [HFl]; · iexact HFl
  isplitl [HLd]; · iexact HLd
  isplitl [HTR]; · iexact HTR
  isplitl [HRD]; · iexact HRD
  isplitl [HK]; · iexact HK
  isplitl [HYT]; · iexact HYT
  isplitl [HYD Hy]
  · isplitl [Hy]
    · unfold YDone yRow
      iapply (Entails.of_eq (pointsTo_congr (write_YF m c (blk c ny) f))); iexact Hy
    iexact HYD
  isplitl [Hw]; · iexact Hw
  iexact HR

end Steps

end Cert.KernelIdeal.Gather

end

end
-- ==== Proof.KernelIdeal.Regroup.lean ====
/-
# Buffers cut into blocks and put together again

The gathering buffer and the result buffer are each sixteen blocks of 64 rows. At the start a device keeps its own block
of the gathering buffer and gives the places of the other fifteen to the five devices that will fill them; from the five
it receives the places that its own fifteen sends fill. At the end every share of every block is back.
-/
module

public import proofs.«01_k».proof.Proof.KernelIdeal.Steps

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Ring (lead_disjoint lead_cover pointsTo_blocks)

section Regroup
variable (c : Dev nD)

/-! ## Blocks -/

/-- Different blocks of the gathering buffer do not overlap. -/
theorem gSet_disjoint (o o' : Dev nD) (h : o ≠ o') : Disjoint (gSet o) (gSet o') :=
  lead_disjoint (s := S1024x1024) (NB := 16) (0 : Fin 2) 64 rowAt S64x1024.size inbG (fun _ => rfl) rfl o o' h
/-- The sixteen blocks make up the gathering buffer. -/
theorem gSet_cover : Finset.univ.biUnion gSet = Finset.univ :=
  lead_cover (s := S1024x1024) (NB := 16) (0 : Fin 2) 64 rowAt S64x1024.size inbG (fun _ => rfl)
    (fun b a h => by fin_cases a; exact absurd rfl h; rfl) rfl (fun a h => by fin_cases a; exact absurd rfl h; rfl) rfl
/-- Different blocks of the result buffer do not overlap. -/
theorem ySet_disjoint (o o' : Dev nD) (h : o ≠ o') : Disjoint (ySet o) (ySet o') :=
  lead_disjoint (s := S1024x64) (NB := 16) (0 : Fin 2) 64 rowAt S64x64.size inbY (fun _ => rfl) rfl o o' h
/-- The sixteen blocks make up the result buffer. -/
theorem ySet_cover : Finset.univ.biUnion ySet = Finset.univ :=
  lead_cover (s := S1024x64) (NB := 16) (0 : Fin 2) 64 rowAt S64x64.size inbY (fun _ => rfl)
    (fun b a h => by fin_cases a; exact absurd rfl h; rfl) rfl (fun a h => by fin_cases a; exact absurd rfl h; rfl) rfl

/-- Different steps use different blocks. -/
theorem blk_injOn : Set.InjOn (blk c) (Finset.Ico 0 16 : Finset ℕ) := by
  intro i hi j hj h
  rw [Finset.mem_coe, Finset.mem_Ico] at hi hj
  have h1 := iOf_blk c ⟨i, hi.2⟩
  have h2 := iOf_blk c ⟨j, hj.2⟩
  dsimp only at h1 h2
  rw [← h1, ← h2, h]
/-- The sixteen steps use all blocks. -/
theorem blk_image : (Finset.Ico 0 16).image (blk c) = Finset.univ := by
  ext o
  simp only [Finset.mem_image, Finset.mem_Ico, Finset.mem_univ, iff_true]
  exact ⟨iOf c o, ⟨Nat.zero_le _, (blk_iOf c o).1⟩, (blk_iOf c o).2⟩

/-- Something for every device is something for every place in device `c`'s order. -/
theorem over_blk (A : Dev nD → sProp 𝕄) : bigSep Finset.univ A = bigSep (Finset.Ico 0 16) fun i => A (blk c i) := by
  rw [← blk_image c, bigSep_image_of_injOn (blk_injOn c)]

/-- The gathering buffer is its sixteen blocks, in the order of use. -/
theorem g_blocks (f : Vec F S1024x1024 .bf16) :
    (whole c cc0_scratch4 f : sProp 𝕄) = bigSep (Finset.Ico 0 16) fun i => gRow c (blk c i) fullShare f := by
  rw [← over_blk c fun o => gRow c o fullShare f]
  exact pointsTo_blocks (ℓ := (c : Thread nD τ).loc cc0_scratch4) gSet gSet_disjoint gSet_cover f

/-- The result buffer is its sixteen blocks, in the order of use. -/
theorem y_blocks (f : Vec F S1024x64 .f32) :
    (whole c cc0_scratch3 f : sProp 𝕄) = bigSep (Finset.Ico 0 16) fun i => yRow c (blk c i) f := by
  rw [← over_blk c fun o => yRow c o f]
  exact pointsTo_blocks (ℓ := (c : Thread nD τ).loc cc0_scratch3) ySet ySet_disjoint ySet_cover f

/-- What is held is held. -/
theorem entails_self (P : sProp 𝕄) : P ⊢ P := by iintro H; iexact H
/-- Two holdings, in the other order. -/
theorem sep_flip (P Q : sProp 𝕄) : iprop(P ∗ Q) ⊢ iprop(Q ∗ P) := by
  iintro ⟨H, H'⟩
  isplitl [H']; · iexact H'
  iexact H

/-! ## The places given away -/

/-- The places in device `c`'s buffer that device `p` fills, among the fifteen. -/
theorem places (p : Dev nD) (hp : p ∈ nbrs c) (A : Dev nD → sProp 𝕄) :
    bigSep ((Finset.Ico 1 16).filter fun i => sndr c i = p) (fun i => A (blk c i))
      = bigSep ((Finset.range 15).filter fun j => sd p j = c) fun j => A (sb p j) := by
  rw [← sends_image c p hp, bigSep_image_of_injOn (fun j hj j' hj' h => sends_inj c p hp j hj j' hj' h)]
  exact bigSep_congr fun j _ => by rw [(blk_iOf c (sb p j)).2]

/-- The five devices signalled are different. -/
theorem nb_injOn : Set.InjOn (nb c) (Finset.range 5 : Finset ℕ) := by
  intro i hi j hj h
  rw [Finset.mem_coe, Finset.mem_range] at hi hj
  exact congrArg Fin.val (nb_inj c ⟨i, hi⟩ ⟨j, hj⟩ h)

/-- A block that holds something known holds something. -/
theorem gRow_any (o : Dev nD) (f : Vec F S1024x1024 .bf16) : gRow c o fullShare f ⊢ iprop(∃ f, gRow (F := F) c o fullShare f) := by
  iintro H; iexists f; iexact H

/-- The gathering buffer: the own block, and for each of the five devices signalled what its signal hands over. -/
theorem deal (f : Vec F S1024x1024 .bf16) :
    (whole c cc0_scratch4 f : sProp 𝕄) ⊢ iprop(gRow c c fullShare f ∗ bigSep (Finset.range 5) fun i => barPay (nb c i) c) := by
  rw [g_blocks, bigSep_Ico_succ_bot (by omega)]
  refine sep_mono_right ?_
  refine (bigSep_mono (Ψ := fun i => iprop(∃ f, gRow (F := F) c (blk c i) fullShare f)) fun i _ => gRow_any c (blk c i) f).trans ?_
  rw [show (0 : ℕ) + 1 = 1 from rfl, bigSep_fiberwise _ (sndr c), sndr_image]
  rw [bigSep_congr (Ψ := fun p => barPay (F := F) p c) fun p hp => places c p hp fun o => iprop(∃ f, gRow (F := F) c o fullShare f)]
  unfold nbrs
  rw [bigSep_image_of_injOn (nb_injOn c)]
  exact entails_self _

/-- What the five signals received hand over is a place for each send. -/
theorem collect : bigSep (nbrs c) (barPay (F := F) c) = bigSep (Finset.range 15) fun j => iprop(∃ f, gRow (F := F) (sd c j) (sb c j) fullShare f) := by
  rw [bigSep_fiberwise (Finset.range 15) (sd c), nbrs_eq]
  exact bigSep_congr fun d _ => bigSep_congr fun j hj => by rw [(Finset.mem_filter.mp hj).2]

/-! ## All shares back -/

/-- The fifteen sends, run by run. -/
theorem runs (A : ℕ → sProp 𝕄) : ∀ n ≤ 16,
    bigSep (Finset.Ico 0 (nf n)) A = bigSep (Finset.Ico 0 n) fun i => bigSep (Finset.Ico (nf i) (nf (i + 1))) A := by
  intro n
  induction n with
  | zero => intro _; rw [show nf 0 = 0 from rfl, Ico_nil, Ico_nil]
  | succ n ih =>
    intro h
    rw [bigSep_Ico_succ_top (Nat.zero_le n), ← ih (by omega), Ico_cut (Nat.zero_le _) (nf_mono n (by omega)).1]
    exact BI.Entails.antisymm (sep_flip _ _) (sep_flip _ _)

/-- The shares that were kept and those that the sends hand back make up the gathered operand. -/
theorem gather : iprop(bigSep (Finset.Ico 0 16) (Keep m c) ∗ bigSep (Finset.Ico 0 15) (sendPay m c)) ⊢ whole c cc0_scratch4 (XG m) := by
  rw [show (15 : ℕ) = nf 16 from rfl, runs _ 16 le_rfl, ← bigSep_sep', g_blocks]
  exact bigSep_mono fun i hi => (block_split m c (Finset.mem_Ico.mp hi).2).2

end Regroup

end Cert.KernelIdeal.Gather

end

end
-- ==== Proof.KernelIdeal.Entry.lean ====
/-
# The beginning and the end of a device's run

Before the first send: fetch the two operands, signal the five devices exchanged with, wait for their five signals, round
the operands. After the last wait: copy the result out.
-/
module

public import proofs.«01_k».proof.Proof.KernelIdeal.Regroup

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Copies
variable (K : Dev nD × KI → ℕ) (c : Dev nD) {α : Type}

/-- What the copy of the left operand hands back. -/
theorem copyPay0 : copyPay m c 0 = iprop(whole c cc0_scratch0 (m ((c : Thread nD τ).loc main_arg0)) ∗ whole c main_arg0 (m ((c : Thread nD τ).loc main_arg0))) :=
  if_pos rfl
/-- What the copy of the right operand hands back. -/
theorem copyPay1 : copyPay m c 1 = iprop(whole c cc0_scratch1 (m ((c : Thread nD τ).loc main_arg1)) ∗ whole c main_arg1 (m ((c : Thread nD τ).loc main_arg1))) :=
  (if_neg (by decide)).trans (if_pos rfl)
/-- What the copy of the result hands back. -/
theorem copyPay2 : copyPay m c 2 = iprop(whole c main_v1 (YF m c) ∗ whole c cc0_scratch3 (YF m c)) :=
  (if_neg (by decide)).trans (if_neg (by decide))

/-- Starting one of the three local copies. -/
theorem step_copy {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) sp (.dma sm) (DmaTarget.here (p := .tc) dst)}
    {k : PUnit → Prog (TpuEff nD τ sig (Elt F) Λ₀ .tc) α}
    {fs : Buf (Elt F) (src.view.loc (c : Thread nD τ))} {fd : Buf (Elt F) (dst.view.loc (c : Thread nD τ))}
    (j : ℕ) (hj : j < 3) (hs : sm.val = j) (hN : dst.view.dmaCredit = amt j)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ copyPay m c j) :
    iprop(records m K ∗ (src.view.loc (c : Thread nD τ) ↦[src.view.set]{fullShare} fs) ∗ (dst.view.loc (c : Thread nD τ) ↦[dst.view.set]{fullShare} fd)
        ∗ dutyTok ER (dcell c j) 0 0)
      ⊢ iprop((cred (tallyAt (dcell c j) () (amt j)) -∗ Goes c (k ⟨⟩) Q)
          -∗ Goes c (.op (.enqueueDma src (.here dst) (.dma sm) hsrc hdst hsem) k) Q) := by
  obtain rfl := ds_of_val hs
  iintro ⟨#Hrec, Hs, Hd, Ht⟩
  ihave #HS := (rec_dma m K c j) $$ Hrec
  icases HS with ⟨#HIS, #HrS⟩
  iapply (Rounds.wp_copy_pointsTo 𝒱₀ ER (Rd m) (c : Thread nD τ) none (κ := Kd K c j) (src := src) (dst := dst) (sem := .dma (ds j)) (r := 0) (d := 0)
    (by rw [duties_dma m c (by omega) (cp_used c hj)]; exact Finset.mem_singleton_self _) () (amt j) hN (amount_dma m c (by omega) 0)
    (by rw [payload_dma m c (by omega), cp_pay m c hj]; exact hpay)) $$ [Hs Hd Ht]
  isplitr; · iexact HIS
  isplitl [Hs]; · iexact Hs
  isplitl [Hd]; · iexact Hd
  isplitl [Ht]; · iexact Ht
  iexact HrS

/-- Waiting for one of the three local copies. -/
theorem step_copied {Q : α → sProp 𝕄} {sp sp' : Space} {s s' : Shape} {e e' : EltTy} {src : Memref sig .tc sp s e} {dst : Memref sig .tc sp' s' e'} {sm : DmaSem sig}
    {hsrc : src.view.WordExact} {hdst : dst.view.WordExact} {k : PUnit → Prog (TpuEff nD τ sig (Elt F) Λ₀ .tc) α}
    (j : ℕ) (hj : j < 3) (hs : sm.val = j) (hN : dst.view.dmaCredit = amt j) (n : ℕ) :
    iprop(records m K ∗ levAts L lv ∗ (∃ W, owes (c : Thread nD τ) (tot c n) W) ∗ cred (tallyAt (dcell c j) () (amt j)) ∗ atPos ER (dcell c j) 0 ∅ 0)
      ⊢ iprop((((∃ W, owes (c : Thread nD τ) (tot c n) W) ∗ atPos ER (dcell c j) 1 ∅ 0 ∗ copyPay m c j) -∗ Goes c (k ⟨⟩) Q)
          -∗ Goes c (.op (.waitDma2 sm src dst hsrc hdst) k) Q) := by
  obtain rfl := ds_of_val hs
  iintro ⟨#Hrec, #Hlev, ⟨%W, HO⟩, Hcr, Hat⟩ Hk
  ihave #HS := (rec_dma m K c j) $$ Hrec
  icases HS with ⟨#HIS, #HrS⟩
  iapply (Rounds.wp_wait_rest_token 𝒱₀ ER (Rd m) (c : Thread nD τ) none (κ := Kd K c j)
      (wpE_waitDma2_eq 𝒱₀ (c : Thread nD τ) none Set.univ) (Set.mem_univ _) () (O := tot c n) (W := W) (R := 0) (m := 0) (T := ∅)
      (by rw [Nat.zero_add, expect_dma m c (by omega) (cp_used c hj)]; exact hN)) $$ [Hcr Hat HO]
  · isplitr; · iexact HIS
    isplitl [Hcr]; · rw [hN]; iexact Hcr
    isplitl [HO]; · iexact HO
    isplitr
    · iapply (mayWait c _ n fun i h2 h3 => by
        rw [lv_dma c (by omega)]; unfold lvk; rw [if_neg (by omega)]; unfold slv; split; · omega
        split <;> omega)
      iexact Hlev
    iexact Hat
  iintro ⟨HO, Hat, -, Hpay⟩
  ihave Hp := (Entails.of_eq ((rest_dma m c (by omega) (cp_used c hj)).trans (cp_pay m c hj))) $$ Hpay
  iapply Hk
  isplitl [HO]; · iexists _; iexact HO
  isplitl [Hat]; · iexact Hat
  iexact Hp

end Copies

section Entry
variable (K : Dev nD × KI → ℕ) (c : Dev nD) {α : Type}

/-- A run from weaker holdings is a run from stronger ones. -/
theorem exit_to {Q : α → sProp 𝕄} {P P' : sProp 𝕄} {p : Prog (TpuEff nD τ sig (Elt F) Λ₀ .tc) α} (h : P' ⊢ Goes c p Q) (hP : Entails' P P') :
    Entails' P (Goes c p Q) := BI.Entails.trans hP h

/-- What one entry signal needs. -/
def Sig (i : ℕ) : sProp 𝕄 := iprop(dutyTok ER (bcell (nb c i)) 0 c ∗ barPay (nb c i) c)
/-- What one entry signal needs, written out. -/
theorem Sig_def (i : ℕ) : Sig (F := F) c i = iprop(dutyTok ER (bcell (nb c i)) 0 c ∗ barPay (nb c i) c) := rfl

/-- Device `c` after `n` entry signals, with `R` beside. -/
def Sg (n : ℕ) (R : sProp 𝕄) : sProp 𝕄 :=
  iprop(records m K ∗ levAts L lv ∗ (∃ W, owes (c : Thread nD τ) (tot c 0 + barOwe c n) W) ∗ bigSep (Finset.Ico n 5) (Sig c) ∗ R)

/-- Giving an entry signal. -/
theorem step_signal {Q : α → sProp 𝕄} {R : sProp 𝕄} {k : PUnit → Prog (TpuEff nD τ sig (Elt F) Λ₀ .tc) α} {p : Dev nD} {n : ℕ}
    (hn : n < 5) (hp : p = nb c n) (h : Sg m K c (n + 1) R ⊢ Goes c (k ⟨⟩) Q) :
    Sg m K c n R ⊢ Goes c (.op (.semSignal (Dev.tc p : Thread nD τ) (SemArray.scalar (sig.barrier 0 rfl) : Sems sig S_).sem (1#32).toInt) k) Q := by
  subst hp
  unfold Sg
  rw [bigSep_Ico_succ_bot hn, Sig_def c n]
  iintro ⟨#Hrec, #Hlev, ⟨%W, HO⟩, ⟨⟨Ht, Hp⟩, HS⟩, HR⟩
  ihave #HB := (rec_bar m K (nb c n)) $$ Hrec
  icases HB with ⟨#HIB, #HrB⟩
  iapply (Rounds.wp_signal 𝒱₀ ER (Rd m) (c : Thread nD τ) none (dst := (nb c n : Thread nD τ)) (κ := Kb K (nb c n)) (d := c) (r := 0)
      (by rw [duties_bar]; exact nb_mem c ⟨n, hn⟩) ((amount_bar m (nb c n) c).trans (by decide)) ()
      (O₀ := tot c 0 + barOwe c n) (tot c 0 + barOwe c (n + 1)) (by rw [barOwe_succ c hn]; exact (add_assoc _ _ _).symm)) $$ [HO Ht Hp]
  · isplitr; · iexact HIB
    isplitl [HO]; · iexact HO
    isplitl [Ht]; · iexact Ht
    isplitl [Hp]; · rw [payload_bar]; iexact Hp
    iexact HrB
  iintro HO
  iapply h
  unfold Sg
  isplitr; · iexact Hrec
  isplitr; · iexact Hlev
  isplitl [HO]; · iexists _; iexact HO
  isplitl [HS]; · iexact HS
  iexact HR

/-- What the two first copies need. -/
def In0 : sProp 𝕄 := iprop(dutyTok ER (dcell c 0) 0 0 ∗ dutyTok ER (dcell c 1) 0 0 ∗ whole c main_arg0 (m ((c : Thread nD τ).loc main_arg0))
  ∗ whole c main_arg1 (m ((c : Thread nD τ).loc main_arg1)) ∗ (∃ f, whole (F := F) c cc0_scratch0 f) ∗ ∃ f, whole (F := F) c cc0_scratch1 f)
/-- The two first copies under way. -/
def In1 : sProp 𝕄 := iprop(cred (tallyAt (dcell c 0) () (amt 0)) ∗ cred (tallyAt (dcell c 1) () (amt 1)))

/-- The two fetches and the first three signals. -/
theorem enter3 {Q : α → sProp 𝕄} {R : sProp 𝕄} (v19 v29 v69 v70 : BitVec 32) (v71 v72 v73 : BitVec 1)
    {k : (Σ' (v77 : BitVec 32), Sems sig S_) → Prog (TpuEff nD τ sig (Elt F) Λ₀ .tc) α}
    (h : ∀ v77, Sg m K c 3 iprop(In1 c ∗ R) ⊢ Goes c (k ⟨v77, SemArray.scalar (sig.barrier 0 rfl)⟩) Q) :
    Sg m K c 0 iprop(In0 m c ∗ R) ⊢ Goes c ((k0_part3_skel (F := F) (Memref.whole main_arg0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 c v19 v29 v69 v70 v71 v72 v73) >>= k) Q := by
  unfold k0_part3_skel
  simp only [semSignalWord, semWaitWord, Prog.lift, Prog.bind_op, Prog.bind_ret, Prog.pure_eq_ret, wp_deviceId]
  unfold In0 Sg
  iintro ⟨#Hrec, #Hlev, HO, HS, ⟨Ht0, Ht1, Ha0, Ha1, ⟨%f0, Hs0⟩, ⟨%f1, Hs1⟩⟩, HR⟩
  iapply (step_copy m K c 0 (by omega) (by decide) rfl (src := Memref.whole main_arg0) (dst := Memref.whole cc0_scratch0)
    (fs := m ((c : Thread nD τ).loc main_arg0)) (fd := f0) (by
      unfold copyPay
      rw [if_pos rfl, View.set_whole, View.set_whole, View.read_whole, View.write_whole_univ]
      exact entails_self _)) $$ [Ht0 Ha0 Hs0]
  · isplitr; · iexact Hrec
    rw [View.set_whole, View.set_whole]
    isplitl [Ha0]; · unfold whole; iexact Ha0
    isplitl [Hs0]; · unfold whole; iexact Hs0
    iexact Ht0
  iintro Hc0
  iapply (step_copy m K c 1 (by omega) (by decide) rfl (src := Memref.whole main_arg1) (dst := Memref.whole cc0_scratch1)
    (fs := m ((c : Thread nD τ).loc main_arg1)) (fd := f1) (by
      unfold copyPay
      rw [if_neg (by decide), if_pos rfl, View.set_whole, View.set_whole, View.read_whole, View.write_whole_univ]
      exact entails_self _)) $$ [Ht1 Ha1 Hs1]
  · isplitr; · iexact Hrec
    rw [View.set_whole, View.set_whole]
    isplitl [Ha1]; · unfold whole; iexact Ha1
    isplitl [Hs1]; · unfold whole; iexact Hs1
    iexact Ht1
  iintro Hc1
  refine exit_to c (P' := Sg m K c 0 iprop(In1 c ∗ R))
    (step_signal m K c (n := 0) (by omega) (nbr_0 c) (step_signal m K c (n := 1) (by omega) (nbr_1 c) (step_signal m K c (n := 2) (by omega) (nbr_2 c) (h _)))) ?_
  unfold Sg
  isplitr; · iexact Hrec
  isplitr; · iexact Hlev
  isplitl [HO]; · iexact HO
  isplitl [HS]; · iexact HS
  isplitl [Hc0 Hc1]
  · unfold In1
    isplitl [Hc0] <;> iassumption
  iexact HR

/-- What the last two signals leave to be had before the sends. -/
def Pre : sProp 𝕄 :=
  iprop(atPos ER (dcell c 0) 0 ∅ 0 ∗ atPos ER (dcell c 1) 0 ∅ 0 ∗ atPos ER (bcell c) 0 ∅ 0 ∗ cred (tallyAt (bcell c) () 5)
    ∗ (∃ f, gRow (F := F) c c fullShare f) ∗ (∃ f, whole (F := F) c cc0_scratch2 f) ∗ (∃ f, whole (F := F) c cc0_scratch3 f)
    ∗ bigSep (Finset.range 15) (fun j => iprop(dutyTok ER (dcell c (sk c j)) 0 0 ∗ dutyTok ER (dcell (sd c j) (rk (sb c j))) 0 0 ∗ atPos ER (dcell c (sk c j)) 0 ∅ 0))
    ∗ bigSep (Finset.Ico 1 16) (ToRecv c))
/-- What is done with once the sends begin. -/
def Done : sProp 𝕄 :=
  iprop(atPos ER (dcell c 0) 1 ∅ 0 ∗ atPos ER (dcell c 1) 1 ∅ 0 ∗ atPos ER (bcell c) 1 ∅ 0 ∗ copyPay m c 0 ∗ copyPay m c 1)

/-- The duties, the position and the place at the other end are what one send needs. -/
theorem to_send_one (j : ℕ) : iprop(iprop(dutyTok ER (dcell c (sk c j)) 0 0 ∗ dutyTok ER (dcell (sd c j) (rk (sb c j))) 0 0 ∗ atPos ER (dcell c (sk c j)) 0 ∅ 0)
      ∗ iprop(∃ f, gRow (F := F) (sd c j) (sb c j) fullShare f)) ⊢ ToSend (F := F) c j := by
  rw [ToSend_def]
  iintro ⟨⟨H1, H2, H3⟩, H4⟩
  isplitl [H1]; · iexact H1
  isplitl [H2]; · iexact H2
  isplitl [H3]; · iexact H3
  iexact H4

/-- The places for the sends, one each. -/
theorem to_send : iprop(bigSep (Finset.range 15) (fun j => iprop(dutyTok ER (dcell c (sk c j)) 0 0 ∗ dutyTok ER (dcell (sd c j) (rk (sb c j))) 0 0 ∗ atPos ER (dcell c (sk c j)) 0 ∅ 0))
      ∗ bigSep (Finset.range 15) (fun j => iprop(∃ f, gRow (F := F) (sd c j) (sb c j) fullShare f))) ⊢ bigSep (Finset.Ico 0 15) (ToSend (F := F) c) := by
  rw [Finset.range_eq_Ico, ← bigSep_sep']
  exact bigSep_mono fun j _ => to_send_one c j

/-- One block of the result buffer, not yet computed. -/
theorem y_todo_one (f : Vec F S1024x64 .f32) (i : ℕ) : (yRow c (blk c i) f : sProp 𝕄) ⊢ YTodo (F := F) c i := by
  rw [YTodo_def]
  iintro H; iexists f; iexact H
/-- The result buffer, cut into sixteen blocks not yet computed. -/
theorem y_todo (f : Vec F S1024x64 .f32) : (whole c cc0_scratch3 f : sProp 𝕄) ⊢ bigSep (Finset.Ico 0 16) (YTodo (F := F) c) := by
  rw [y_blocks]
  exact bigSep_mono fun i _ => y_todo_one c f i

/-- Loading a block of the gathering buffer. -/
theorem step_look {Q : α → sProp 𝕄} {off : Fin 2 → ℕ} {inb : ∀ a, off a + S64x1024.size a ≤ S1024x1024.size a}
    {hl : gV.view.LoadsAt (Rect.unit (s := S1024x1024) off S64x1024.size inb).toLoadRect}
    {k : ((Rect.unit (s := S1024x1024) off S64x1024.size inb).toLoadRect.shape.Idx → Elt F .bf16) → Prog (TpuEff nD τ sig (Elt F) Λ₀ .tc) α}
    (o : Dev nD) (hoff : off = rowAt o) (f : Vec F S1024x1024 .bf16) :
    gRow c o fullShare f ⊢ iprop((∀ v, gRow c o fullShare f -∗ Goes c (k v) Q)
      -∗ Goes c (.op (.load gV (Rect.unit (s := S1024x1024) off S64x1024.size inb).toLoadRect hl) k) Q) := by
  subst hoff
  unfold gRow
  iintro H Hk
  iapply (wp_load 𝒱₀ (c : Thread nD τ) none Set.univ (m := gV) (by rw [gM_load])) $$ H
  iintro H
  iapply Hk
  iexact H

/-- Storing the rounded block into the gathering buffer. -/
theorem step_put {Q : α → sProp 𝕄} {off : Fin 2 → ℕ} {inb : ∀ a, off a + S64x1024.size a ≤ S1024x1024.size a}
    {hx : (gV.access (Rect.unit (s := S1024x1024) off S64x1024.size inb)).Stores Finset.univ}
    {hm : (Finset.univ : Finset (Rect.unit (s := S1024x1024) off S64x1024.size inb).shape.Idx) = Finset.univ
      ∨ ∀ a, (Rect.unit (s := S1024x1024) off S64x1024.size inb).stride a = 1}
    {k : PUnit → Prog (TpuEff nD τ sig (Elt F) Λ₀ .tc) α}
    (o : Dev nD) (hoff : off = rowAt o) (f : Vec F S1024x1024 .bf16) :
    gRow c o fullShare f ⊢ iprop((gRow c o fullShare (XG m) -∗ Goes c (k ⟨⟩) Q)
      -∗ Goes c (.op (.store gV (Rect.unit (s := S1024x1024) off S64x1024.size inb) (xb m o) Finset.univ hx hm) k) Q) := by
  subst hoff
  unfold gRow
  iintro H Hk
  iapply (wp_store 𝒱₀ (c : Thread nD τ) none Set.univ (m := gV) (r := gR o) (Mk := Finset.univ) (by rw [gM_access])) $$ H
  iintro H
  iapply Hk
  iapply (Entails.of_eq (pointsTo_congr (write_XG m o f)))
  iexact H

/-- The first block used is the device's own. -/
theorem blk_zero : ∀ c : Dev nD, blk c 0 = c := by decide +kernel

/-- The last two signals, the wait for five, the rounding of the operands. -/
theorem enter4 {Q : α → sProp 𝕄} {R : sProp 𝕄} (v2 v42 v55 : BitVec 32)
    {k : (Σ' (v128 : FVec F S64x64 .f32) (v130 : FVec F S64x64 .f32), FVec F S64x64 .f32) → Prog (TpuEff nD τ sig (Elt F) Λ₀ .tc) α}
    (h : St m K c 0 1 0 0 iprop(Done m c ∗ R)
      ⊢ Goes c (k ⟨k0_pay3 (xb m (blk c 0)) (wb m c), k0_pay4 (xb m (blk c 0)) (wb m c), k0_pay5 (F := F)⟩) Q) :
    Sg m K c 3 iprop(In1 c ∗ Pre c ∗ R)
      ⊢ Goes c ((k0_part4_skel (F := F) (Memref.whole main_arg0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 c v2 v42 v55 (SemArray.scalar (sig.barrier 0 rfl))) >>= k) Q := by
  unfold k0_part4_skel
  simp only [semSignalWord, semWaitWord, Prog.lift, Prog.bind_op, Prog.bind_ret, Prog.pure_eq_ret, wp_deviceId]
  refine step_signal m K c (n := 3) (by omega) (nbr_3 c) (step_signal m K c (n := 4) (by omega) (nbr_4 c) ?_)
  unfold Sg In1 Pre
  rw [barOwe_end, add_zero, Ico_nil]
  iintro ⟨#Hrec, #Hlev, ⟨%W, HO⟩, -, ⟨Hc0, Hc1⟩, ⟨Hp0, Hp1, HpB, HcB, ⟨%fg, Hg⟩, ⟨%f2, Hs2⟩, ⟨%f3, Hs3⟩, HT, HV⟩, HR⟩
  ihave #HB := (rec_bar m K c) $$ Hrec
  icases HB with ⟨#HIB, #HrB⟩
  iapply (Rounds.wp_wait_rest_token 𝒱₀ ER (Rd m) (c : Thread nD τ) none (κ := Kb K c)
      (sm := .reg barS) (wpE_semWait_eq 𝒱₀ (c : Thread nD τ) none Set.univ) (Set.mem_univ _) () (O := tot c 0) (W := W) (R := 0) (m := 0) (T := ∅)
      (by rw [expect_bar m c]; decide)) $$ [HcB HpB HO]
  · isplitr; · iexact HIB
    isplitl [HcB]; · iexact HcB
    isplitl [HO]; · iexact HO
    isplitr
    · iapply (mayWait c _ 0 fun i h2 h3 => by
        show 1 < slv i
        unfold slv; split; · omega
        split <;> omega)
      iexact Hlev
    iexact HpB
  iintro ⟨HO, HpB, -, Hpay⟩
  ihave Hpl := (Entails.of_eq ((rest_bar m c).trans (collect c))) $$ Hpay
  ihave HTS := (to_send c) $$ [HT Hpl]
  · isplitl [HT] <;> iassumption
  iapply (step_copied m K c 0 (by omega) (by decide) rfl 0) $$ [HO Hc0 Hp0]
  · isplitr; · iexact Hrec
    isplitr; · iexact Hlev
    isplitl [HO]; · iexists _; iexact HO
    isplitl [Hc0] <;> iassumption
  iintro ⟨HO, Hp0, Hy0⟩
  ihave Hy0' := (Entails.of_eq (copyPay0 m c)) $$ Hy0
  icases Hy0' with ⟨Hs0, Ha0⟩
  unfold whole
  iapply (wp_load 𝒱₀ (c : Thread nD τ) none Set.univ (m := Memref.whole cc0_scratch0) (Finset.subset_univ _)) $$ Hs0
  iintro Hs0
  rw [show (Memref.whole cc0_scratch0 : Memref sig .tc .vmem S64x1024 .f32).view.readAt (Elt F) (Rect.unit (s := S64x1024) ![0, 0] S64x1024.size inb_S64x1024_S64x1024_0_0).toLoadRect
    (m ((c : Thread nD τ).loc main_arg0)) = m ((c : Thread nD τ).loc main_arg0) from Memref.readAt_unit_zero (Elt F) cc0_scratch0 hz _ _]
  iapply (step_look c (blk c 0) (off1_at c) fg) $$ [Hg]
  · rw [blk_zero]; iexact Hg
  iintro %v Hg
  rw [show k0_pay1 (m ((c : Thread nD τ).loc main_arg0)) = xb m (blk c 0) by unfold xb; rw [blk_zero]]
  iapply (step_put m c (blk c 0) (off1_at c) fg) $$ Hg
  iintro Hg
  iapply (step_copied m K c 1 (by omega) (by decide) rfl 0) $$ [HO Hc1 Hp1]
  · isplitr; · iexact Hrec
    isplitr; · iexact Hlev
    isplitl [HO]; · iexact HO
    isplitl [Hc1] <;> iassumption
  iintro ⟨HO, Hp1, Hy1⟩
  ihave Hy1' := (Entails.of_eq (copyPay1 m c)) $$ Hy1
  icases Hy1' with ⟨Hs1, Ha1⟩
  unfold whole
  iapply (wp_load 𝒱₀ (c : Thread nD τ) none Set.univ (m := Memref.whole cc0_scratch1) (Finset.subset_univ _)) $$ Hs1
  iintro Hs1
  rw [show (Memref.whole cc0_scratch1 : Memref sig .tc .vmem S1024x64 .f32).view.readAt (Elt F) (Rect.unit (s := S1024x64) ![0, 0] S1024x64.size inb_S1024x64_S1024x64_0_0).toLoadRect
    (m ((c : Thread nD τ).loc main_arg1)) = m ((c : Thread nD τ).loc main_arg1) from Memref.readAt_unit_zero (Elt F) cc0_scratch1 hz _ _]
  iapply (wp_load 𝒱₀ (c : Thread nD τ) none Set.univ (m := wV) (Finset.subset_univ _)) $$ Hs2
  iintro Hs2
  iapply (wp_store 𝒱₀ (c : Thread nD τ) none Set.univ (m := wV) (r := Rect.unit (s := S1024x64) ![0, 0] S1024x64.size inb_S1024x64_S1024x64_0_0) (Mk := Finset.univ)
    (f := f2) (Finset.subset_univ _)) $$ [Hs2]
  · iexact Hs2
  iintro Hs2
  rw [show (wV.access (Rect.unit (s := S1024x64) ![0, 0] S1024x64.size inb_S1024x64_S1024x64_0_0)).write (Elt F) f2 (k0_pay2 (m ((c : Thread nD τ).loc main_arg1))) Finset.univ = wb m c
    from Memref.write_access_unit_zero_univ (Elt F) cc0_scratch2 hz _ _ _]
  ihave Hb := (block_split m c (i := 0) (by omega)).1 $$ Hg
  icases Hb with ⟨Hk, Hsp⟩
  ihave HY := (y_todo c f3) $$ [Hs3]
  · unfold whole; iexact Hs3
  refine exit_to c (step_loadx m K c (nr := 1) 0 (by omega) (off1_at c) (step_loadw m K c h)) ?_
  unfold St Done
  rw [Ico_nil, Ico_nil, Ico_nil, Ico_nil, bigSep_Ico_one, copyPay0, copyPay1]
  isplitr; · iexact Hrec
  isplitr; · iexact Hlev
  isplitl [HO]; · iexact HO
  isplitl [HTS]; · iexact HTS
  isplitl [Hsp]; · iexact Hsp
  isplitr; · iempintro
  isplitr; · iempintro
  isplitl [HV]; · iexact HV
  isplitr; · iempintro
  isplitl [Hk]; · iexact Hk
  isplitl [HY]; · iexact HY
  isplitr; · iempintro
  isplitl [Hs2]; · unfold whole; iexact Hs2
  isplitr [HR]
  · isplitl [Hp0]; · iexact Hp0
    isplitl [Hp1]; · iexact Hp1
    isplitl [HpB]; · iexact HpB
    isplitl [Hs0 Ha0]
    · isplitl [Hs0]; · unfold whole; iexact Hs0
      unfold whole; iexact Ha0
    isplitl [Hs1]; · unfold whole; iexact Hs1
    unfold whole; iexact Ha1
  iexact HR

end Entry

end Cert.KernelIdeal.Gather

end

end
-- ==== Proof.KernelIdeal.Leave.lean ====
/-
# The end of a device's run

After the last wait the result is copied out, the buffers are whole again, and every semaphore stands at zero.
-/
module

public import proofs.«01_k».proof.Proof.KernelIdeal.Entry

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Leave
variable (K : Dev nD × KI → ℕ) (c : Dev nD) {α : Type}

/-! ## The semaphores of a device, by use -/

/-- The list of semaphores names all 36. -/
theorem semOrd_image : (Finset.range 36).image (semOrd c) = Finset.range 36 :=
  Finset.eq_of_subset_of_card_le
    (fun k hk => by
      obtain ⟨n, hn, rfl⟩ := Finset.mem_image.mp hk
      exact Finset.mem_range.mpr (semOrd_lt c ⟨n, Finset.mem_range.mp hn⟩))
    (le_of_eq (Finset.card_image_of_injOn (s := Finset.range 36) (f := semOrd c) (fun n hn n' hn' h =>
      congrArg Fin.val (semOrd_inj c ⟨n, Finset.mem_range.mp hn⟩ ⟨n', Finset.mem_range.mp hn'⟩ h))).symm)

/-- A run of numbered holdings, numbered from `s` later. -/
theorem shift (a b d : ℕ) (h : b = a + d) (s : ℕ) (A : ℕ → sProp 𝕄) :
    bigSep (Finset.Ico (a + s) (b + s)) A = bigSep (Finset.Ico a b) fun j => A (j + s) := by
  rw [show Finset.Ico (a + s) (b + s) = (Finset.Ico a b).image (fun j => j + s) by ext x; simp only [Finset.mem_Ico, Finset.mem_image]; exact ⟨fun hx => ⟨x - s, by omega, by omega⟩, fun ⟨y, hy, e⟩ => by omega⟩,
    bigSep_image_of_injOn (fun x _ y _ h => Nat.add_right_cancel h)]

/-- Something for every DMA semaphore: the three of the local copies, those of the sends, of the arrivals, and three
    never used. -/
theorem by_use (A : ℕ → sProp 𝕄) : bigSep (Finset.range 36) A
    = iprop((A 0 ∗ A 1 ∗ A 2) ∗ bigSep (Finset.range 15) (fun j => A (sk c j)) ∗ bigSep (Finset.Ico 1 16) (fun i => A (rk (blk c i)))
      ∗ A (3 + zz c) ∗ A (rk c) ∗ A 35) := by
  have e1 : bigSep (Finset.Ico 0 3) (fun n => A (semOrd c n)) = iprop(A 0 ∗ A 1 ∗ A 2) := by
    rw [bigSep_Ico_succ_bot (by omega), bigSep_Ico_succ_bot (by omega), bigSep_Ico_one]; rfl
  have e2 : bigSep (Finset.Ico 3 18) (fun n => A (semOrd c n)) = bigSep (Finset.range 15) (fun j => A (sk c j)) := by
    rw [shift 0 15 15 rfl 3, Finset.range_eq_Ico]
    refine bigSep_congr fun j hj => ?_
    have := (Finset.mem_Ico.mp hj).2
    unfold semOrd
    rw [if_neg (by omega), if_pos (by omega), Nat.add_sub_cancel]
  have e3 : bigSep (Finset.Ico 18 33) (fun n => A (semOrd c n)) = bigSep (Finset.Ico 1 16) (fun i => A (rk (blk c i))) := by
    rw [shift 1 16 15 rfl 17]
    refine bigSep_congr fun j hj => ?_
    have := Finset.mem_Ico.mp hj
    unfold semOrd
    rw [if_neg (by omega), if_neg (by omega), if_pos (by omega), Nat.add_sub_cancel]
  have e4 : bigSep (Finset.Ico 33 36) (fun n => A (semOrd c n)) = iprop(A (3 + zz c) ∗ A (rk c) ∗ A 35) := by
    rw [bigSep_Ico_succ_bot (by omega), bigSep_Ico_succ_bot (by omega), bigSep_Ico_one]; rfl
  rw [← e1, ← e2, ← e3, ← e4, ← Ico_cut (by omega) (by omega), ← Ico_cut (by omega) (by omega), ← Ico_cut (by omega) (by omega),
    ← Finset.range_eq_Ico]
  conv_lhs => rw [← semOrd_image c]
  exact bigSep_image_of_injOn (fun n hn n' hn' h =>
      congrArg Fin.val (semOrd_inj c ⟨n, Finset.mem_range.mp hn⟩ ⟨n', Finset.mem_range.mp hn'⟩ h)) A

/-! ## Closing -/

/-- A semaphore with no duty left is given back, at zero. -/
theorem close_one (k R : ℕ) (h : ∀ r, R ≤ r → (Rd (F := F) m).duties (dcell c k) r = ∅) :
    iprop(records m K ∗ atPos ER (dcell c k) R ∅ 0) ⊢ |={Set.univ}=> semVal (dcell c k) 0 := by
  iintro ⟨#Hrec, Hat⟩
  ihave #HS := (rec_dma m K c k) $$ Hrec
  icases HS with ⟨#HIS, -⟩
  iapply (Rounds.cell_close ER (Rd m) (Set.mem_univ (Kd K c k)) (fun h => h) (R := R) h)
  isplitr; · iexact HIS
  iexact Hat

/-- One more holding beside a set of them. -/
theorem add_one {s : Finset ℕ} {i : ℕ} (hi : i ∉ s) (A : ℕ → sProp 𝕄) : bigSep (insert i s) A = iprop(A i ∗ bigSep s A) := bigSep_insert hi

/-- Closing a run of semaphores waited for. -/
theorem close_run (s : Finset ℕ) (f : ℕ → ℕ) :
    iprop(records m K ∗ bigSep s (fun j => atPos ER (dcell c (f j)) 1 ∅ 0)) ⊢ |={Set.univ}=> bigSep s fun j => semVal (dcell c (f j)) 0 := by
  induction s using Finset.induction_on with
  | empty =>
    rw [bigSep_empty, bigSep_empty]
    iintro -
    imodintro
    iempintro
  | insert i s hi ih =>
    rw [add_one hi, add_one hi]
    iintro ⟨#Hrec, Ha, Hs⟩
    imod (close_one m K c (f i) 1 (duties_later m _)) $$ [Ha] with Hz
    · isplitr; · iexact Hrec
      iexact Ha
    imod ih $$ [Hs] with Hzs
    · isplitr; · iexact Hrec
      iexact Hs
    imodintro
    isplitl [Hz]; · iexact Hz
    iexact Hzs

/-- The three semaphores never used. -/
def Unused (c : Dev nD) : sProp 𝕄 :=
  iprop(atPos ER (dcell c (3 + zz c)) 0 ∅ 0 ∗ atPos ER (dcell c (rk c)) 0 ∅ 0 ∗ atPos ER (dcell c 35) 0 ∅ 0)
/-- What lies aside until the end. -/
def Aside (c : Dev nD) : sProp 𝕄 :=
  iprop(dutyTok ER (dcell c 2) 0 0 ∗ atPos ER (dcell c 2) 0 ∅ 0 ∗ (∃ f, whole (F := F) c main_v1 f) ∗ Unused c)

/-- Device `c` at the end. -/
def End : sProp 𝕄 :=
  iprop(whole c main_arg0 (m ((c : Thread nD τ).loc main_arg0)) ∗ whole c main_arg1 (m ((c : Thread nD τ).loc main_arg1)) ∗ whole c main_v1 (YF m c)
    ∗ ((∃ f, whole (F := F) c cc0_scratch0 f) ∗ (∃ f, whole (F := F) c cc0_scratch1 f) ∗ (∃ f, whole (F := F) c cc0_scratch2 f)
      ∗ (∃ f, whole (F := F) c cc0_scratch3 f) ∗ ∃ f, whole (F := F) c cc0_scratch4 f)
    ∗ bigSep (Finset.range 36) (fun k => semVal (dcell c k) 0) ∗ semVal (bcell c) 0)

/-- Sixteen blocks computed are the whole result. -/
theorem y_done : bigSep (Finset.Ico 0 16) (YDone m c) ⊢ whole c cc0_scratch3 (YF m c) := by
  rw [y_blocks]
  exact bigSep_mono fun i _ => entails_self _
/-- The finished sends are the shares they hand back and the positions of their semaphores. -/
theorem landed_split : bigSep (Finset.Ico 0 15) (Landed m c)
    = iprop(bigSep (Finset.Ico 0 15) (sendPay m c) ∗ bigSep (Finset.range 15) fun j => atPos ER (dcell c (sk c j)) 1 ∅ 0) := by
  rw [Finset.range_eq_Ico, ← bigSep_sep']
  rfl
/-- The send semaphore of the own row is among the 36. -/
theorem unused_lt : ∀ c : Dev nD, 3 + zz c < 36 := by decide +kernel

/-- The copy of the result, and the end. -/
theorem leave {Q : PUnit → sProp 𝕄} {sm : DmaSem sig} (hs : sm.val = 2)
    {hsrc : (Memref.whole cc0_scratch3 : Memref sig .tc .vmem S1024x64 .f32).view.WordExact}
    {hdst : (Memref.whole main_v1 : Memref sig .tc .hbm S1024x64 .f32).view.WordExact}
    {hsrc' : (Memref.whole cc0_scratch3 : Memref sig .tc .vmem S1024x64 .f32).view.WordExact}
    {hdst' : (Memref.whole main_v1 : Memref sig .tc .hbm S1024x64 .f32).view.WordExact}
    {hsem : DmaTarget.Typed (nD := nD) (τ := τ) .vmem (.dma sm) (DmaTarget.here (p := .tc) (Memref.whole main_v1 : Memref sig .tc .hbm S1024x64 .f32))}
    (h : iprop((∃ W, owes (c : Thread nD τ) 0 W) ∗ End m c) ⊢ Q ⟨⟩) :
    St m K c 15 16 16 15 iprop(Done m c ∗ Aside c)
      ⊢ Goes c (.op (.enqueueDma (Memref.whole cc0_scratch3 : Memref sig .tc .vmem S1024x64 .f32)
          (.here (Memref.whole main_v1 : Memref sig .tc .hbm S1024x64 .f32)) (.dma sm) hsrc hdst hsem)
        fun _ => .op (.waitDma2 sm (Memref.whole cc0_scratch3 : Memref sig .tc .vmem S1024x64 .f32)
          (Memref.whole main_v1 : Memref sig .tc .hbm S1024x64 .f32) hsrc' hdst') fun _ => .ret ⟨⟩) Q := by
  unfold St Done Aside
  rw [copyPay0, copyPay1]
  iintro ⟨#Hrec, #Hlev, HO, -, -, -, HLd, -, HRD, HK, -, HYD, Hw, ⟨Hp0, Hp1, HpB, ⟨Hs0, Ha0⟩, Hs1, Ha1⟩, Ht2, Hp2, ⟨%fo, Hv⟩, HU⟩
  ihave HY := (y_done m c) $$ HYD
  iapply (step_copy m K c 2 (by omega) hs rfl (src := (Memref.whole cc0_scratch3 : Memref sig .tc .vmem S1024x64 .f32))
    (dst := (Memref.whole main_v1 : Memref sig .tc .hbm S1024x64 .f32)) (fs := YF m c) (fd := fo) (by
      rw [copyPay2, View.set_whole, View.set_whole, View.read_whole, View.write_whole_univ]
      exact entails_self _)) $$ [Ht2 HY Hv]
  · isplitr; · iexact Hrec
    rw [View.set_whole, View.set_whole]
    isplitl [HY]; · unfold whole; iexact HY
    isplitl [Hv]; · unfold whole; iexact Hv
    iexact Ht2
  iintro Hc2
  iapply (step_copied m K c 2 (by omega) hs rfl 15) $$ [HO Hc2 Hp2]
  · isplitr; · iexact Hrec
    isplitr; · iexact Hlev
    isplitl [HO]; · iexact HO
    isplitl [Hc2] <;> iassumption
  iintro ⟨HO, Hp2, Hy⟩
  ihave Hy' := (Entails.of_eq (copyPay2 m c)) $$ Hy
  icases Hy' with ⟨Hv, HY⟩
  ihave HL := (Entails.of_eq (landed_split m c)) $$ HLd
  icases HL with ⟨HSP, HpS⟩
  ihave HX := (gather m c) $$ [HK HSP]
  · isplitl [HK] <;> iassumption
  unfold Unused
  icases HU with ⟨Hu1, Hu2, Hu3⟩
  imod (close_run m K c (Finset.range 15) (sk c)) $$ [HpS] with HzS
  · isplitr; · iexact Hrec
    iexact HpS
  imod (close_run m K c (Finset.Ico 1 16) (fun i => rk (blk c i))) $$ [HRD] with HzR
  · isplitr; · iexact Hrec
    iexact HRD
  imod (close_one m K c 0 1 (duties_later m _)) $$ [Hp0] with Hz0
  · isplitr; · iexact Hrec
    iexact Hp0
  imod (close_one m K c 1 1 (duties_later m _)) $$ [Hp1] with Hz1
  · isplitr; · iexact Hrec
    iexact Hp1
  imod (close_one m K c 2 1 (duties_later m _)) $$ [Hp2] with Hz2
  · isplitr; · iexact Hrec
    iexact Hp2
  imod (close_one m K c (3 + zz c) 0 (fun r _ => duties_unused m c (unused_lt c) (unused c).1 r)) $$ [Hu1] with Hz3
  · isplitr; · iexact Hrec
    iexact Hu1
  imod (close_one m K c (rk c) 0 (fun r _ => duties_unused m c (rk_lt c) (unused c).2.1 r)) $$ [Hu2] with Hz4
  · isplitr; · iexact Hrec
    iexact Hu2
  imod (close_one m K c 35 0 (fun r _ => duties_unused m c (by omega) (unused c).2.2 r)) $$ [Hu3] with Hz5
  · isplitr; · iexact Hrec
    iexact Hu3
  ihave #HB := (rec_bar m K c) $$ Hrec
  icases HB with ⟨#HIB, -⟩
  imod (Rounds.cell_close ER (Rd m) (Set.mem_univ (Kb K c)) (fun h => h) (R := 1) (duties_later m (bcell c))) $$ [HpB] with HzB
  · isplitr; · iexact HIB
    iexact HpB
  rw [wp_ret]
  imodintro
  iapply h
  unfold End
  isplitl [HO]; · iexact HO
  isplitl [Ha0]; · iexact Ha0
  isplitl [Ha1]; · iexact Ha1
  isplitl [Hv]; · iexact Hv
  isplitl [Hs0 Hs1 Hw HY HX]
  · isplitl [Hs0]; · iexists _; iexact Hs0
    isplitl [Hs1]; · iexists _; iexact Hs1
    isplitl [Hw]; · iexists _; iexact Hw
    isplitl [HY]; · iexists _; iexact HY
    iexists _; iexact HX
  isplitr [HzB]
  · rw [by_use c]
    isplitl [Hz0 Hz1 Hz2]
    · isplitl [Hz0]; · iexact Hz0
      isplitl [Hz1] <;> iassumption
    isplitl [HzS]; · iexact HzS
    isplitl [HzR]; · iexact HzR
    isplitl [Hz3]; · iexact Hz3
    isplitl [Hz4] <;> iassumption
  iexact HzB

end Leave

end Cert.KernelIdeal.Gather

end

end
-- ==== Proof.KernelIdeal.Body.lean ====
/-
# A device's run

The kernel's body, operation by operation: after the operands are at hand, every send, every arrival, every block of the
result and every wait is one step of the state.
-/
module

public import proofs.«01_k».proof.Proof.KernelIdeal.Leave

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × KI → ℕ) (c : Dev nD)

/-- An arrival waited for stands below everything still owed. -/
theorem lv_ok {ns nr : ℕ} (h : (nr < 4 ∧ 3 ≤ ns) ∨ (nr < 12 ∧ 11 ≤ ns) ∨ 15 ≤ ns) : ∀ j, ns ≤ j → j < 15 → rlv nr < slv j := by
  intro j h1 h2
  unfold rlv slv
  split_ifs <;> omega

set_option maxRecDepth 65536 in
set_option maxHeartbeats 4000000 in
/-- What a device's run makes of what it is given. -/
theorem body_run {Q : PUnit → sProp 𝕄} (h : iprop((∃ W, owes (c : Thread nD τ) 0 W) ∗ End m c) ⊢ Q ⟨⟩) :
    Sg m K c 0 iprop(In0 m c ∗ Pre c ∗ Aside c)
      ⊢ Goes c (cc0_body (F := F) (Memref.whole main_arg0) (Memref.isWhole_whole _) (Memref.whole main_arg1) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) Q := by
  simp only [cc0_body_eq_skeleton]; unfold cc0_body_skel
  simp only [k0_part26_eq_skeleton]; unfold k0_part26_skel
  simp only [k0_part1_eq_skeleton, k0_part2_eq_skeleton, k0_part3_eq_skeleton, k0_part4_eq_skeleton]
  unfold k0_part1_skel k0_part2_skel
  simp only [semSignalWord, semWaitWord, Prog.lift, Prog.bind_op, Prog.bind_ret, Prog.pure_eq_ret, wp_deviceId, bind_assoc]
  refine enter3 m K c _ _ _ _ _ _ _ fun v77 => ?_
  refine enter4 m K c _ _ _ ?_
  simp only [k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton, k0_part25_eq_skeleton]
  unfold k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel
  simp only [Prog.lift, Prog.bind_op, Prog.bind_ret, Prog.pure_eq_ret]
  refine step_loady m K c (by omega) (off2_at c) fun _ => ?_
  refine step_storey m K c (by omega) (off2_at c) rfl ?_
  refine step_send m K c (by omega) (by decide) (by omega) (dev_0 c) (ssem_0 c) (rsem_0 c) (off5_at c) ?_
  refine step_send m K c (by omega) (by decide) (by omega) (dev_1 c) (ssem_1 c) (rsem_0 c) (off5_at c) ?_
  refine step_send m K c (by omega) (by decide) (by omega) (dev_2 c) (ssem_2 c) (rsem_0 c) (off5_at c) ?_
  refine step_send m K c (by omega) (by decide) (by omega) (dev_3 c) (ssem_3 c) (rsem_0 c) (off5_at c) ?_
  refine step_send m K c (by omega) (by decide) (by omega) (dev_4 c) (ssem_4 c) (rsem_0 c) (off5_at c) ?_
  refine step_recv m K c (by omega) (by omega) (by decide) (lv_ok (by decide)) (rsem_1 c) (off11_at c) ?_
  refine step_send m K c (by omega) (by decide) (by omega) (dev_5 c) (ssem_5 c) (rsem_1 c) (off11_at c) ?_
  refine step_send m K c (by omega) (by decide) (by omega) (dev_6 c) (ssem_6 c) (rsem_1 c) (off11_at c) ?_
  refine step_loadx m K c 1 (by omega) (off14_at c) ?_
  refine step_loadw m K c ?_
  refine step_loady m K c (by omega) (off15_at c) fun _ => ?_
  refine step_storey m K c (by omega) (off15_at c) rfl ?_
  refine step_recv m K c (by omega) (by omega) (by decide) (lv_ok (by decide)) (rsem_2 c) (off17_at c) ?_
  refine step_send m K c (by omega) (by decide) (by omega) (dev_7 c) (ssem_7 c) (rsem_2 c) (off17_at c) ?_
  refine step_send m K c (by omega) (by decide) (by omega) (dev_8 c) (ssem_8 c) (rsem_2 c) (off17_at c) ?_
  refine step_loadx m K c 2 (by omega) (off20_at c) ?_
  refine step_loadw m K c ?_
  refine step_loady m K c (by omega) (off21_at c) fun _ => ?_
  refine step_storey m K c (by omega) (off21_at c) rfl ?_
  refine step_recv m K c (by omega) (by omega) (by decide) (lv_ok (by decide)) (rsem_3 c) (off23_at c) ?_
  refine step_send m K c (by omega) (by decide) (by omega) (dev_9 c) (ssem_9 c) (rsem_3 c) (off23_at c) ?_
  refine step_send m K c (by omega) (by decide) (by omega) (dev_10 c) (ssem_10 c) (rsem_3 c) (off23_at c) ?_
  refine step_loadx m K c 3 (by omega) (off26_at c) ?_
  refine step_loadw m K c ?_
  refine step_loady m K c (by omega) (off27_at c) fun _ => ?_
  refine step_storey m K c (by omega) (off27_at c) rfl ?_
  refine step_recv m K c (by omega) (by omega) (by decide) (lv_ok (by decide)) (rsem_4 c) (off29_at_4 c) ?_
  refine step_send m K c (by omega) (by decide) (by omega) (dev_11 c) (ssem_11 c) (rsem_4 c) (off29_at_4 c) ?_
  refine step_loadx m K c 4 (by omega) (off30_at_4 c) ?_
  refine step_loadw m K c ?_
  refine step_loady m K c (by omega) (off31_at_4 c) fun _ => ?_
  refine step_storey m K c (by omega) (off31_at_4 c) rfl ?_
  refine step_recv m K c (by omega) (by omega) (by decide) (lv_ok (by decide)) (rsem_5 c) (off29_at_5 c) ?_
  refine step_send m K c (by omega) (by decide) (by omega) (dev_12 c) (ssem_12 c) (rsem_5 c) (off29_at_5 c) ?_
  refine step_loadx m K c 5 (by omega) (off30_at_5 c) ?_
  refine step_loadw m K c ?_
  refine step_loady m K c (by omega) (off31_at_5 c) fun _ => ?_
  refine step_storey m K c (by omega) (off31_at_5 c) rfl ?_
  refine step_recv m K c (by omega) (by omega) (by decide) (lv_ok (by decide)) (rsem_6 c) (off29_at_6 c) ?_
  refine step_send m K c (by omega) (by decide) (by omega) (dev_13 c) (ssem_13 c) (rsem_6 c) (off29_at_6 c) ?_
  refine step_loadx m K c 6 (by omega) (off30_at_6 c) ?_
  refine step_loadw m K c ?_
  refine step_loady m K c (by omega) (off31_at_6 c) fun _ => ?_
  refine step_storey m K c (by omega) (off31_at_6 c) rfl ?_
  refine step_recv m K c (by omega) (by omega) (by decide) (lv_ok (by decide)) (rsem_7 c) (off29_at_7 c) ?_
  refine step_send m K c (by omega) (by decide) (by omega) (dev_14 c) (ssem_14 c) (rsem_7 c) (off29_at_7 c) ?_
  refine step_loadx m K c 7 (by omega) (off30_at_7 c) ?_
  refine step_loadw m K c ?_
  refine step_loady m K c (by omega) (off31_at_7 c) fun _ => ?_
  refine step_storey m K c (by omega) (off31_at_7 c) rfl ?_
  refine step_recv m K c (by omega) (by omega) (by decide) (lv_ok (by decide)) (rsem_8 c) (off29_at_8 c) ?_
  refine step_loadx m K c 8 (by omega) (off30_at_8 c) ?_
  refine step_loadw m K c ?_
  refine step_loady m K c (by omega) (off31_at_8 c) fun _ => ?_
  refine step_storey m K c (by omega) (off31_at_8 c) rfl ?_
  refine step_recv m K c (by omega) (by omega) (by decide) (lv_ok (by decide)) (rsem_9 c) (off29_at_9 c) ?_
  refine step_loadx m K c 9 (by omega) (off30_at_9 c) ?_
  refine step_loadw m K c ?_
  refine step_loady m K c (by omega) (off31_at_9 c) fun _ => ?_
  refine step_storey m K c (by omega) (off31_at_9 c) rfl ?_
  refine step_recv m K c (by omega) (by omega) (by decide) (lv_ok (by decide)) (rsem_10 c) (off29_at_10 c) ?_
  refine step_loadx m K c 10 (by omega) (off30_at_10 c) ?_
  refine step_loadw m K c ?_
  refine step_loady m K c (by omega) (off31_at_10 c) fun _ => ?_
  refine step_storey m K c (by omega) (off31_at_10 c) rfl ?_
  refine step_recv m K c (by omega) (by omega) (by decide) (lv_ok (by decide)) (rsem_11 c) (off29_at_11 c) ?_
  refine step_loadx m K c 11 (by omega) (off30_at_11 c) ?_
  refine step_loadw m K c ?_
  refine step_loady m K c (by omega) (off31_at_11 c) fun _ => ?_
  refine step_storey m K c (by omega) (off31_at_11 c) rfl ?_
  refine step_recv m K c (by omega) (by omega) (by decide) (lv_ok (by decide)) (rsem_12 c) (off33_at c) ?_
  refine step_loadx m K c 12 (by omega) (off34_at c) ?_
  refine step_loadw m K c ?_
  refine step_loady m K c (by omega) (off35_at c) fun _ => ?_
  refine step_storey m K c (by omega) (off35_at c) rfl ?_
  refine step_recv m K c (by omega) (by omega) (by decide) (lv_ok (by decide)) (rsem_13 c) (off37_at c) ?_
  refine step_loadx m K c 13 (by omega) (off38_at c) ?_
  refine step_loadw m K c ?_
  refine step_loady m K c (by omega) (off39_at c) fun _ => ?_
  refine step_storey m K c (by omega) (off39_at c) rfl ?_
  refine step_recv m K c (by omega) (by omega) (by decide) (lv_ok (by decide)) (rsem_14 c) (off41_at c) ?_
  refine step_loadx m K c 14 (by omega) (off42_at c) ?_
  refine step_loadw m K c ?_
  refine step_loady m K c (by omega) (off43_at c) fun _ => ?_
  refine step_storey m K c (by omega) (off43_at c) rfl ?_
  refine step_recv m K c (by omega) (by omega) (by decide) (lv_ok (by decide)) (rsem_15 c) (off45_at c) ?_
  refine step_loadx m K c 15 (by omega) (off46_at c) ?_
  refine step_loadw m K c ?_
  refine step_loady m K c (by omega) (off47_at c) fun _ => ?_
  refine step_storey m K c (by omega) (off47_at c) rfl ?_
  refine step_sent m K c (by omega) (ssem_0 c) ?_
  refine step_sent m K c (by omega) (ssem_1 c) ?_
  refine step_sent m K c (by omega) (ssem_2 c) ?_
  refine step_sent m K c (by omega) (ssem_3 c) ?_
  refine step_sent m K c (by omega) (ssem_4 c) ?_
  refine step_sent m K c (by omega) (ssem_5 c) ?_
  refine step_sent m K c (by omega) (ssem_6 c) ?_
  refine step_sent m K c (by omega) (ssem_7 c) ?_
  refine step_sent m K c (by omega) (ssem_8 c) ?_
  refine step_sent m K c (by omega) (ssem_9 c) ?_
  refine step_sent m K c (by omega) (ssem_10 c) ?_
  refine step_sent m K c (by omega) (ssem_11 c) ?_
  refine step_sent m K c (by omega) (ssem_12 c) ?_
  refine step_sent m K c (by omega) (ssem_13 c) ?_
  refine step_sent m K c (by omega) (ssem_14 c) ?_
  exact leave m K c (by decide) h

end Body

end Cert.KernelIdeal.Gather

end

end
-- ==== Proof.KernelIdeal.Deal.lean ====
/-
# What each device is given at the launch

The duty tokens are minted for the device that pays them: each of its sends' two, one for each device it signals at the
entry, and its three copies'. All semaphores' invariants are set up at once, since each is shared by several devices; what
the devices owe one another's semaphores at the start comes as credit to the semaphores' own devices.
-/
module

public import proofs.«01_k».proof.Proof.KernelIdeal.Body
public import Idealize.ShloMosaic.Lib.Pipeline.Launch
public import Idealize.ShloMosaic.Lib.Pipeline.Kit
public import Idealize.ShloMosaic.Lib.Quiescent
public import proofs.«01_k».proof.Proof.Gen.KernelIdeal.Launch

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The kernel's own semaphores. -/
def osem (k : Fin 36) : SemLoc sig := .dma k

/-- The kernel's own semaphores are DMA semaphores that differ from each other and from those of the pipeline. -/
theorem ownSemFacts : Pipeline.OwnSemFacts cfg0.spec osem := by decide +kernel

/-- The list of a device's semaphores names none twice. -/
theorem ksem_inj : Function.Injective ksem := by
  rintro (k | u) (k' | u') h
  · have : k = k' := by injection h
    rw [this]
  · cases h
  · cases h
  · rfl

/-- Different devices' semaphores differ. -/
theorem kcell_inj : Function.Injective kcell := by
  rintro ⟨c, k⟩ ⟨c', k'⟩ h
  have h1 : c = c' := congrArg (fun g : GSem nD τ sig => g.1.1) h
  have h2 : k = k' := ksem_inj (congrArg Prod.snd h)
  rw [h1, h2]
/-- All semaphores of all devices. -/
def ringCells : Finset (GSem nD τ sig) := Finset.univ.map ⟨kcell, kcell_inj⟩

/-! ## The tokens -/

/-- The tokens of one device: its sends' at both ends, its entry signals', its copies'. -/
abbrev TI : Type := (Fin 15 ⊕ Fin 15) ⊕ (Fin 5 ⊕ Fin 3)
/-- Token `x` of device `c`: the semaphore, the round, the duty. -/
def tokOf (p : Dev nD × TI) : GSem nD τ sig × ℕ × Dev nD := match p.2 with
  | .inl (.inl j) => (dcell p.1 (sk p.1 j), 0, 0)
  | .inl (.inr j) => (dcell (sd p.1 j) (rk (sb p.1 j)), 0, 0)
  | .inr (.inl i) => (bcell (nb p.1 i), 0, p.1)
  | .inr (.inr k) => (dcell p.1 k, 0, 0)

/-- A block reaches a device by one send only. -/
theorem send_unique : ∀ c c' : Dev nD, ∀ j j' : Fin 15, sd c j = sd c' j' → sb c j = sb c' j' → c = c' ∧ j = j' := by decide +kernel

/-- Duties on two DMA semaphores differ if the devices or the numbers do. -/
theorem apart {c c' : Dev nD} {k k' : ℕ} (hk : k < 36) (hk' : k' < 36) {d d' : Dev nD}
    (h : ((dcell c k, 0, d) : GSem nD τ sig × ℕ × Dev nD) = (dcell c' k', 0, d')) : c = c' ∧ k = k' :=
  dcell_inj hk hk' (congrArg Prod.fst h)
/-- A duty on a DMA semaphore is not one on an entry semaphore. -/
theorem apart_bar {c c' d d' : Dev nD} {k : ℕ} (h : ((dcell c k, 0, d) : GSem nD τ sig × ℕ × Dev nD) = (bcell c', 0, d')) : False := by
  have h1 : (SemLoc.dma (ds k) : SemLoc sig) = .reg barS := congrArg (fun x : GSem nD τ sig × ℕ × Dev nD => x.1.2) h
  cases h1

/-- The semaphores of the arrivals are numbers 19 to 35. -/
theorem rk_bounds (o : Dev nD) : 19 ≤ rk o ∧ rk o < 36 := by
  have := o.isLt; unfold rk; refine ⟨by omega, ?_⟩
  have h16 : (nD : ℕ) = 16 := rfl
  omega

/-- No duty is counted twice among all devices' duties. -/
theorem tokOf_inj : Function.Injective tokOf := by
  rintro ⟨c, (j | j) | (i | k)⟩ ⟨c', (j' | j') | (i' | k')⟩ h <;> simp only [tokOf] at h
  · have h1 := sk_range c j; have h2 := sk_range c' j'
    obtain ⟨rfl, e⟩ := apart (by omega) (by omega) h
    have e2 : j = j' := Fin.ext (by have := congrArg (jOf c) e; rwa [jOf_sk, jOf_sk] at this)
    rw [e2]
  · have h1 := sk_range c j; have h2 := rk_bounds (sb c' j')
    obtain ⟨_, e⟩ := apart (by omega) (by omega) h; omega
  · exact (apart_bar h).elim
  · have h1 := sk_range c j; have h2 := k'.isLt
    obtain ⟨_, e⟩ := apart (by omega) (by omega) h; omega
  · have h1 := sk_range c' j'; have h2 := rk_bounds (sb c j)
    obtain ⟨_, e⟩ := apart (by omega) (by omega) h; omega
  · have h1 := rk_bounds (sb c j); have h2 := rk_bounds (sb c' j')
    obtain ⟨e1, e⟩ := apart (by omega) (by omega) h
    have e2 : sb c j = sb c' j' := Fin.ext (by unfold rk at e; omega)
    obtain ⟨rfl, rfl⟩ := send_unique c c' j j' e1 e2
    rfl
  · exact (apart_bar h).elim
  · have h1 := rk_bounds (sb c j); have h2 := k'.isLt
    obtain ⟨_, e⟩ := apart (by omega) (by omega) h; omega
  · exact (apart_bar h.symm).elim
  · exact (apart_bar h.symm).elim
  · have h1 : c = c' := congrArg (fun x : GSem nD τ sig × ℕ × Dev nD => x.2.2) h
    subst h1
    have h2 : nb c i = nb c i' := congrArg (fun x : GSem nD τ sig × ℕ × Dev nD => x.1.1.1) h
    rw [nb_inj c i i' h2]
  · exact (apart_bar h.symm).elim
  · have h1 := sk_range c' j'; have h2 := k.isLt
    obtain ⟨_, e⟩ := apart (by omega) (by omega) h; omega
  · have h1 := rk_bounds (sb c' j'); have h2 := k.isLt
    obtain ⟨_, e⟩ := apart (by omega) (by omega) h; omega
  · exact (apart_bar h).elim
  · have h1 := k'.isLt; have h2 := k.isLt
    obtain ⟨rfl, e⟩ := apart (by omega) (by omega) h
    rw [Fin.ext e]
/-- All tokens. -/
def ringToks : Finset (GSem nD τ sig × ℕ × Dev nD) := Finset.univ.map ⟨tokOf, tokOf_inj⟩

/-- The element the launch starts from. -/
def u₀ : UU := (initOf (Pipeline.cells cfgs cellOf_inj) (Pipeline.launchToks cfgs cellOf_inj), initOf ringCells ringToks)

/-- The tokens of device `c`. -/
def toks (c : Dev nD) : sProp 𝕄 := bigSep Finset.univ fun x : TI => dutyTok ER (tokOf (c, x)).1 (tokOf (c, x)).2.1 (tokOf (c, x)).2.2

omit [FloatOps F] in
/-- A family over the numbers below `n`, as one over the finite type. -/
theorem over_fin (n : ℕ) (A : ℕ → sProp 𝕄) : (bigSep Finset.univ fun i : Fin n => A i.val) = bigSep (Finset.range n) A := by
  have h : Finset.range n = (Finset.univ : Finset (Fin n)).image Fin.val := by
    ext x; simp only [Finset.mem_range, Finset.mem_image, Finset.mem_univ, true_and]
    exact ⟨fun h => ⟨⟨x, h⟩, rfl⟩, fun ⟨i, hi⟩ => hi ▸ i.isLt⟩
  rw [h, bigSep_image_of_injOn (fun x _ y _ e => Fin.ext e)]

omit [FloatOps F] in
/-- Something for each of three, written out. -/
theorem over_three (A : Fin 3 → sProp 𝕄) : bigSep Finset.univ A = iprop(A 0 ∗ A 1 ∗ A 2) :=
  bigSep_univ_eq_bigSepL [0, 1, 2] (by decide) (by decide) A

omit [FloatOps F] in
/-- The tokens by kind. -/
theorem toks_eq (c : Dev nD) : (toks c : sProp 𝕄) =
    iprop((bigSep (Finset.range 15) (fun j => dutyTok ER (dcell c (sk c j)) 0 0) ∗ bigSep (Finset.range 15) (fun j => dutyTok ER (dcell (sd c j) (rk (sb c j))) 0 0))
      ∗ bigSep (Finset.range 5) (fun i => dutyTok ER (bcell (nb c i)) 0 c)
      ∗ dutyTok ER (dcell c 0) 0 0 ∗ dutyTok ER (dcell c 1) 0 0 ∗ dutyTok ER (dcell c 2) 0 0) := by
  unfold toks
  rw [bigSep_univ_sum, bigSep_univ_sum, bigSep_univ_sum, over_three, ← over_fin 15, ← over_fin 15, ← over_fin 5]
  rfl

/-! ## What the launch element yields, and the invariants -/

/-- What the launch element deals device `c`. -/
def G (c : Dev nD) : sProp 𝕄 :=
  iprop((bigSep Finset.univ fun k : KI => roundState ER (Rd m) (kcell (c, k)) 0)
    ∗ (bigSep Finset.univ fun k : KI => iprop(atPos ER (kcell (c, k)) 0 ∅ 0 ∗ reached ER (kcell (c, k)) 0)) ∗ toks c)

/-- What device `c` alone holds. -/
def linear (c : Dev nD) : sProp 𝕄 := iprop((bigSep Finset.univ fun k : KI => atPos ER (kcell (c, k)) 0 ∅ 0) ∗ toks c)

/-- What the setting up of the invariants makes of it. -/
def G' (c : Dev nD) : sProp 𝕄 := iprop(∃ K, records m K ∗ linear c)

/-- The starting state of the protocol, dealt out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

omit [FloatOps F] in
/-- The kernel's own semaphores at zero, written out. -/
theorem ownSems0_eq (c : Dev nD) : (Pipeline.ownSems0 (Ix := Unit) (Name := ℕ) (U := UU) (Lvl := ℕ) (Val := Elt F) (τ := τ) osem c : sProp 𝕄)
    = bigSep Finset.univ fun k : Fin 36 => semVal (kcell (c, .inl k)) 0 := rfl
omit [FloatOps F] in
/-- The one semaphore that outlives the kernel is the entry semaphore. -/
theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
/-- Something for the one element of a one-element type. -/
theorem over_unit (A : Unit → sProp 𝕄) : bigSep Finset.univ A = A () :=
  bigSep_univ_eq_bigSepL [()] (by decide) (by decide) A

omit [FloatOps F] in
/-- All counters of a device at zero, over all its semaphores. -/
theorem sems_eq (c : Dev nD) :
    (bigSep Finset.univ fun k : KI => semVal (kcell (c, k)) 0 : sProp 𝕄)
      = iprop(Pipeline.ownSems0 (Ix := Unit) (Name := ℕ) (U := UU) (Lvl := ℕ) (Val := Elt F) (τ := τ) osem c ∗ unscopedSems0 c) := by
  rw [ownSems0_eq, unscopedSems0_eq, bigSep_univ_sum, over_unit]; rfl

/-- A device's semaphores at zero, put under the protocol. -/
theorem cells_up (c : Dev nD) : iprop((bigSep Finset.univ fun k : KI => semVal (kcell (c, k)) 0) ∗ bigSep Finset.univ fun k : KI => roundState ER (Rd m) (kcell (c, k)) 0)
    ⊢ (|={Set.univ}=> bigSep Finset.univ fun k : KI => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- One device's semaphores, as they stand at the start, put under the protocol. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (Rd m) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hos]
    · iexact Hos
    · iexact Hus
  imod (cells_up m c) $$ [Hv Hst] with Hinv
  · isplitl [Hv]
    · iexact Hv
    · iexact Hst
  imodintro
  isplitl [Hinv]; · iexact Hinv
  isplitl [Hat]; · iexact Hat
  iexact Htok

omit [FloatOps F] in
/-- What is shared by all goes to each. -/
theorem share_out {A : Dev nD → sProp 𝕄} {B : Dev nD → sProp 𝕄} {R : sProp 𝕄} [BI.Persistent R] (h : ∀ c, iprop(R ∗ A c) ⊢ B c) :
    iprop(R ∗ bigSep Finset.univ A) ⊢ bigSep Finset.univ B :=
  (sep_mono_left (BI.bigSep_of_persistent Finset.univ R)).trans (by rw [← bigSep_sep']; exact bigSep_mono fun c _ => h c)

/-- Every device gets the records of all semaphores and its own positions, and the duties it is to pay. -/
theorem regroup :
    (bigSep Finset.univ fun c : Dev nD => iprop((bigSep Finset.univ fun k : KI => iprop(∃ κ : ℕ, cellInv ER (Rd m) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun p : Dev nD × KI => iprop(∃ κ : ℕ, cellInv ER (Rd m) κ (kcell p))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun p : Dev nD × KI => (reached ER (kcell p) 0 : sProp 𝕄))]
  iintro ⟨HI, ⟨Hat, HR⟩, Htok⟩
  ihave HK := (BI.bigSep_exists_pi Finset.univ (fun (p : Dev nD × KI) (κ : ℕ) => (cellInv ER (Rd m) κ (kcell p) : sProp 𝕄))) $$ HI
  icases HK with ⟨%K, HI⟩
  iapply (share_out (R := records m K) (A := linear) fun c => by
    unfold G'; iintro ⟨H1, H2⟩; iexists K; isplitl [H1]
    · iexact H1
    · iexact H2)
  isplitl [HI HR]
  · iapply (Entails.of_eq (show iprop((bigSep Finset.univ fun p : Dev nD × KI => (cellInv ER (Rd m) (K p) (kcell p) : sProp 𝕄)) ∗ bigSep Finset.univ fun p : Dev nD × KI => reached ER (kcell p) 0)
      = records m K from by unfold records; rw [bigSep_sep']))
    isplitl [HI]
    · iexact HI
    · iexact HR
  · iapply (Entails.of_eq (show iprop((bigSep Finset.univ fun c : Dev nD => bigSep Finset.univ fun k : KI => (atPos ER (kcell (c, k)) 0 ∅ 0 : sProp 𝕄)) ∗ bigSep Finset.univ toks)
      = bigSep Finset.univ (linear (F := F)) from by unfold linear; rw [bigSep_sep']))
    isplitl [Hat]
    · iexact Hat
    · iexact Htok

/-- The semaphores of all devices at the start become what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- Each device is signalled five times at the entry. -/
theorem five_signals : ∀ c : Dev nD, (∑ d : Dev nD, ∑ i ∈ Finset.range 5, if nb d i = c then 1 else 0) = 5 := by decide +kernel

/-- What device `d` owes the entry semaphore of device `c`: one signal if `c` is among those it signals. -/
theorem owed_bar (d c : Dev nD) : O₀ d (bcell c) () = ∑ i ∈ Finset.range 5, if nb d i = c then 1 else 0 := by
  unfold O₀
  rw [Pi.add_apply, Finsupp.add_apply]
  unfold tot barOwe
  rw [sum_tally_apply, sum_tally_apply, Finset.sum_eq_zero, zero_add, Finset.range_eq_Ico]
  · refine Finset.sum_congr rfl fun i _ => ?_
    rw [tallyAt_apply]
    by_cases e : nb d i = c
    · rw [if_pos e, if_pos ⟨by rw [e], rfl⟩]
    · rw [if_neg e, if_neg fun h => e (congrArg (fun g : GSem nD τ sig => g.1.1) h.1).symm]
  · intro j _
    rw [tallyAt_apply, if_neg fun h => ?_]
    have h1 : (SemLoc.reg barS : SemLoc sig) = .dma (ds _) := congrArg (fun g : GSem nD τ sig => g.2) h.1
    cases h1

/-- What device `d` owes the arrival of block `o` at device `c`: a block for each send of `o` to `c`. -/
theorem owed_recv (d c o : Dev nD) : O₀ d (dcell c (rk o)) () = N * ∑ j ∈ Finset.range 15, if sd d j = c ∧ sb d j = o then 1 else 0 := by
  unfold O₀
  rw [Pi.add_apply, Finsupp.add_apply]
  unfold tot barOwe
  rw [sum_tally_apply, sum_tally_apply, Finset.sum_eq_zero (s := Finset.Ico 0 5), add_zero, Finset.range_eq_Ico, Finset.mul_sum]
  · refine Finset.sum_congr rfl fun j _ => ?_
    rw [tallyAt_apply]
    by_cases e : sd d j = c ∧ sb d j = o
    · rw [if_pos e, if_pos ⟨by rw [e.1, e.2], rfl⟩, mul_one]
    · rw [if_neg e, if_neg fun h => e ?_, mul_zero]
      obtain ⟨e1, e2⟩ := dcell_inj (rk_bounds o).2 (rk_bounds (sb d j)).2 h.1
      exact ⟨e1.symm, Fin.ext (by unfold rk at e2; omega)⟩
  · intro i _
    rw [tallyAt_apply, if_neg fun h => ?_]
    have h1 : (SemLoc.dma (ds (rk o)) : SemLoc sig) = .reg barS := congrArg (fun g : GSem nD τ sig => g.2) h.1
    cases h1

/-- Each entry semaphore is owed five signals by all devices together. -/
theorem launch_bar (c : Dev nD) :
    tallyOn (bcell c) (launchCredit (Pipeline.owing O₀) 0 (bcell c)) = (tallyAt (bcell c) () 5 : CellTallies nD τ sig Unit) := by
  unfold tallyAt; refine congrArg _ (Finsupp.ext fun u => ?_); cases u
  rw [Pipeline.launchCredit_owing, Finsupp.single_eq_same, Finset.sum_congr rfl fun d _ => owed_bar d c, five_signals]

/-- Each arrival of another device's block is owed one block by all devices together. -/
theorem launch_recv (c o : Dev nD) (h : o ≠ c) :
    tallyOn (dcell c (rk o)) (launchCredit (Pipeline.owing O₀) 0 (dcell c (rk o))) = (tallyAt (dcell c (rk o)) () N : CellTallies nD τ sig Unit) := by
  unfold tallyAt; refine congrArg _ (Finsupp.ext fun u => ?_); cases u
  rw [Pipeline.launchCredit_owing, Finsupp.single_eq_same, Finset.sum_congr rfl fun d _ => owed_recv d c o, ← Finset.mul_sum, one_sender c o h, mul_one]

/-- The semaphores that count the arrivals at device `c`, in the order of use. -/
def arr (c : Dev nD) (i : ℕ) : SemLoc sig := .dma (ds (rk (blk c i)))
/-- Different arrivals have different semaphores. -/
theorem arr_injOn (c : Dev nD) : Set.InjOn (arr c) (Finset.Ico 1 16 : Finset ℕ) := by
  intro i hi i' hi' h
  have h1 : ds (rk (blk c i)) = ds (rk (blk c i')) := by injection h
  have h2 := congrArg Fin.val h1
  rw [ds_val (rk_bounds _).2, ds_val (rk_bounds _).2] at h2
  have h3 : blk c i = blk c i' := Fin.ext (by unfold rk at h2; omega)
  have hi := Finset.mem_Ico.mp (Finset.mem_coe.mp hi); have hi' := Finset.mem_Ico.mp (Finset.mem_coe.mp hi')
  have := congrArg (iOf c) h3
  have e1 := iOf_blk c ⟨i, hi.2⟩; have e2 := iOf_blk c ⟨i', hi'.2⟩
  simp only at e1 e2
  rw [e1, e2] at this; exact this

omit [FloatOps F] in
/-- What is owed to the fifteen arrivals, written out: a block each. -/
theorem arr_creds (c : Dev nD) :
    (bigSep (Finset.Ico 1 16) fun i => cred (tallyOn ((c : Thread nD τ), arr c i) (launchCredit (Pipeline.owing O₀) 0 ((c : Thread nD τ), arr c i))) : sProp 𝕄)
      = bigSep (Finset.Ico 1 16) fun i => cred (tallyAt (dcell c (rk (blk c i))) () N) :=
  bigSep_congr fun i hi => by
    show cred (tallyOn (dcell c (rk (blk c i))) (launchCredit (Pipeline.owing O₀) 0 (dcell c (rk (blk c i))))) = _
    rw [launch_recv c (blk c i) (blk_ne c ⟨i, (Finset.mem_Ico.mp hi).2⟩ (Finset.mem_Ico.mp hi).1)]

/-- The credit of device `c`: its five signals and its fifteen arrivals. -/
theorem creds (c : Dev nD) : (Pipeline.launchCred O₀ c : sProp 𝕄) ⊢
    iprop(cred (tallyAt (bcell c) () 5) ∗ bigSep (Finset.Ico 1 16) fun i => cred (tallyAt (dcell c (rk (blk c i))) () N)) := by
  rw [← arr_creds]
  unfold Pipeline.launchCred
  refine (BI.bigSep_subset (Finset.subset_univ (insert (SemLoc.reg barS) ((Finset.Ico 1 16).image (arr c))))).trans ?_
  rw [BI.bigSep_insert (by simp [arr]), bigSep_image_of_injOn (arr_injOn c), launch_bar]
  exact entails_self _

end Cert.KernelIdeal.Gather

end

end
-- ==== Proof.KernelIdeal.Launch.lean ====
/-
# The run of the kernel

The launch: every device starts with its tokens, its positions, its credit and its arrays, and runs the body proved in
`Body`. Every weakly fair execution ends, the arguments as they were, each device's result at the value `YF`, and every
semaphore at zero.
-/
module

public import proofs.«01_k».proof.Proof.KernelIdeal.Deal
public import Idealize.ShloMosaic.Lib.Pipeline.CollectiveSegs
public import proofs.«01_k».proof.Proof.Gen.KernelIdeal.Points

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The one point of the pipeline -/

/-- The three arrays of a device, the result's contents not known. -/
def arrays (c : Dev nD) : sProp 𝕄 :=
  iprop(whole c main_arg0 (m ((c : Thread nD τ).loc main_arg0)) ∗ whole c main_arg1 (m ((c : Thread nD τ).loc main_arg1)) ∗ ∃ f, whole (F := F) c main_v1 f)

/-- The scratch buffers of a device. -/
def scratches (c : Dev nD) : sProp 𝕄 :=
  iprop((∃ f, whole (F := F) c cc0_scratch0 f) ∗ (∃ f, whole (F := F) c cc0_scratch1 f) ∗ (∃ f, whole (F := F) c cc0_scratch2 f)
    ∗ (∃ f, whole (F := F) c cc0_scratch3 f) ∗ ∃ f, whole (F := F) c cc0_scratch4 f)

/-- What a device starts with. -/
def start (c : Dev nD) : sProp 𝕄 :=
  iprop(G' m c ∗ (cred (tallyAt (bcell c) () 5) ∗ bigSep (Finset.Ico 1 16) fun i => cred (tallyAt (dcell c (rk (blk c i))) () N))
    ∗ levAts L lv ∗ arrays m c)

/-- The proof's data of the pipeline: no window, and the whole body at its only point. -/
def dats (_ : Fin 1) (c : Dev nD) : Dat τ (Elt F) Unit ℕ UU ℕ cfg0 c where
  A w := w.elim0
  after w _ := w.elim0
  Φ t := match t with
    | ⟨0, _⟩ => iprop(start m c ∗ scratches c)
    | ⟨_ + 1, _⟩ => End m c
  q _ := fullShare
  owed t := match t with
    | ⟨0, _⟩ => O₀ c
    | ⟨_ + 1, _⟩ => 0

omit [FloatOps F] in
/-- Something for each of the 36 DMA semaphores, by number. -/
theorem over_sems (A : GSem nD τ sig → sProp 𝕄) (c : Dev nD) :
    (bigSep Finset.univ fun k : Fin 36 => A (kcell (c, .inl k))) = bigSep (Finset.range 36) fun k => A (dcell c k) := by
  rw [← over_fin 36]
  exact bigSep_congr fun k _ => congrArg A (by
    show ((c : Thread nD τ), (SemLoc.dma k : SemLoc sig)) = ((c : Thread nD τ), .dma (ds k.val))
    rw [← ds_of_val (s := k) (k := k.val) rfl])

/-- The positions of device `c`, by the use of the semaphores. -/
theorem positions (c : Dev nD) : (bigSep Finset.univ fun k : KI => (atPos ER (kcell (c, k)) 0 ∅ 0 : sProp 𝕄))
    = iprop(((atPos ER (dcell c 0) 0 ∅ 0 ∗ atPos ER (dcell c 1) 0 ∅ 0 ∗ atPos ER (dcell c 2) 0 ∅ 0)
      ∗ bigSep (Finset.range 15) (fun j => atPos ER (dcell c (sk c j)) 0 ∅ 0)
      ∗ bigSep (Finset.Ico 1 16) (fun i => atPos ER (dcell c (rk (blk c i))) 0 ∅ 0)
      ∗ atPos ER (dcell c (3 + zz c)) 0 ∅ 0 ∗ atPos ER (dcell c (rk c)) 0 ∅ 0 ∗ atPos ER (dcell c 35) 0 ∅ 0) ∗ atPos ER (bcell c) 0 ∅ 0) := by
  rw [bigSep_univ_sum, over_unit, over_sems fun g => atPos ER g 0 ∅ 0, by_use c fun k => atPos ER (dcell c k) 0 ∅ 0]
  rfl

omit [FloatOps F] in
/-- Three runs of holdings, joined number by number. -/
theorem three_runs (A B C : ℕ → sProp 𝕄) : iprop((bigSep (Finset.range 15) A ∗ bigSep (Finset.range 15) B) ∗ bigSep (Finset.range 15) C)
    ⊢ bigSep (Finset.range 15) fun j => iprop(A j ∗ B j ∗ C j) := by
  rw [bigSep_sep', bigSep_sep']
  iintro ⟨⟨H1, H2⟩, H3⟩
  isplitl [H1]; · iexact H1
  isplitl [H2]
  · iexact H2
  · iexact H3
omit [FloatOps F] in
/-- Two runs of holdings, joined number by number. -/
theorem two_runs (s : Finset ℕ) (A B : ℕ → sProp 𝕄) : iprop(bigSep s A ∗ bigSep s B) ⊢ bigSep s fun j => iprop(A j ∗ B j) := by
  rw [bigSep_sep']

/-- The start of a device's run, from what the launch gives it. -/
theorem to_body (K : Dev nD × KI → ℕ) (c : Dev nD) (W : Waits sig Unit) :
    iprop((records m K ∗ linear c) ∗ ((cred (tallyAt (bcell c) () 5) ∗ bigSep (Finset.Ico 1 16) fun i => cred (tallyAt (dcell c (rk (blk c i))) () N))
      ∗ levAts L lv ∗ arrays m c) ∗ scratches c ∗ owes (c : Thread nD τ) (O₀ c) W) ⊢ Sg m K c 0 iprop(In0 m c ∗ Pre c ∗ Aside c) := by
  unfold linear arrays scratches
  rw [toks_eq, positions]
  iintro ⟨⟨HR, ⟨⟨⟨Ha0, Ha1, Ha2⟩, Has, Har, Hu⟩, Hab⟩, ⟨Hts, Htr⟩, Htb, Ht0, Ht1, Ht2⟩, ⟨⟨Hcb, Hcr⟩, Hlev, Hx, Hw, Hv⟩, ⟨Hs0, Hs1, Hs2, Hs3, ⟨%f, Hs4⟩⟩, Ho⟩
  ihave Hd := (deal c f) $$ Hs4
  icases Hd with ⟨Hown, Hpays⟩
  ihave Hsig := (two_runs (Finset.range 5) (fun i => dutyTok ER (bcell (nb c i)) 0 c) (fun i => barPay (nb c i) c)) $$ [Htb Hpays]
  · isplitl [Htb]
    · iexact Htb
    · iexact Hpays
  ihave Hsend := (three_runs (fun j => dutyTok ER (dcell c (sk c j)) 0 0) (fun j => dutyTok ER (dcell (sd c j) (rk (sb c j))) 0 0) (fun j => atPos ER (dcell c (sk c j)) 0 ∅ 0)) $$ [Hts Htr Has]
  · isplitl [Hts Htr]
    · isplitl [Hts]
      · iexact Hts
      · iexact Htr
    · iexact Has
  ihave Hrecv := (two_runs (Finset.Ico 1 16) (fun i => cred (tallyAt (dcell c (rk (blk c i))) () N)) (fun i => atPos ER (dcell c (rk (blk c i))) 0 ∅ 0)) $$ [Hcr Har]
  · isplitl [Hcr]
    · iexact Hcr
    · iexact Har
  unfold Sg
  isplitl [HR]; · iexact HR
  isplitl [Hlev]; · iexact Hlev
  isplitl [Ho]; · iexists W; iexact Ho
  isplitl [Hsig]; · rw [← Finset.range_eq_Ico]; iexact Hsig
  isplitl [Ht0 Ht1 Hx Hw Hs0 Hs1]
  · unfold In0
    isplitl [Ht0]; · iexact Ht0
    isplitl [Ht1]; · iexact Ht1
    isplitl [Hx]; · iexact Hx
    isplitl [Hw]; · iexact Hw
    isplitl [Hs0]
    · iexact Hs0
    · iexact Hs1
  isplitl [Ha0 Ha1 Hab Hcb Hown Hs2 Hs3 Hsend Hrecv]
  · unfold Pre
    isplitl [Ha0]; · iexact Ha0
    isplitl [Ha1]; · iexact Ha1
    isplitl [Hab]; · iexact Hab
    isplitl [Hcb]; · iexact Hcb
    isplitl [Hown]; · iexists f; iexact Hown
    isplitl [Hs2]; · iexact Hs2
    isplitl [Hs3]; · iexact Hs3
    isplitl [Hsend]
    · iexact Hsend
    · iexact Hrecv
  · unfold Aside Unused
    isplitl [Ht2]; · iexact Ht2
    isplitl [Ha2]; · iexact Ha2
    isplitl [Hv]; · iexact Hv
    iexact Hu

omit [FloatOps F] in
/-- The kernel's grid has one point. -/
theorem fin_N (t : Fin cfg0.N) : t = t0_0 := fin_N0 t

/-- What the body ends with, as the pipeline wants it. -/
def bodyPost (c : Dev nD) : sProp 𝕄 := iprop(End m c ∗ (dats m 0 c).owesAt () t0_0.succ ∗ emp)

/-- What a device holds when it ends is what its run is to leave. -/
theorem body_end (c : Dev nD) : iprop((∃ W, owes (c : Thread nD τ) 0 W) ∗ End m c) ⊢ bodyPost m c := by
  unfold bodyPost Dat.owesAt Pipeline.owesWithin
  iintro ⟨⟨%W, Ho⟩, HE⟩
  isplitl [HE]; · iexact HE
  isplitl [Ho]
  · iexists W
    isplitr [Ho]
    · ipureintro; exact fun _ _ => Or.inl trivial
    · iexact Ho
  · iempintro

/-- From what a device starts with, its run ends as it should. -/
theorem body_start (c : Dev nD) :
    iprop((start m c ∗ scratches c) ∗ (dats m 0 c).owesAt () t0_0.castSucc ∗ emp)
      ⊢ wp frame (wpE (defs₀ (F := F)) 𝒱₀ (c : Thread nD τ) none) Set.univ (bodyAt0 (F := F) t0_0) (fun _ => bodyPost m c) := by
  unfold start G' Dat.owesAt Pipeline.owesWithin
  iintro ⟨⟨⟨⟨%K, Hg⟩, Hrest⟩, Hs⟩, ⟨%W, -, Ho⟩, -⟩
  iapply (body_run m K c (Q := fun _ => bodyPost m c) (body_end m c))
  iapply (to_body m K c W)
  isplitl [Hg]; · iexact Hg
  isplitl [Hrest]; · iexact Hrest
  isplitl [Hs]
  · iexact Hs
  · iexact Ho

set_option maxRecDepth 65536 in
/-- The pipeline's obligation. -/
theorem body_obligation (c : Dev nD) : BodyObligation (dats (F := F) m 0 c) (defs₀ (F := F)) 𝒱₀ () Set.univ := fun t => by
  rw [fin_N t]
  have e : ∀ Φ : Fin cfg0.W → sProp 𝕄, bigSep Finset.univ Φ = iprop(emp) := fun Φ => by
    rw [show (Finset.univ : Finset (Fin cfg0.W)) = ∅ from rfl]; exact BI.bigSep_empty
  rw [e, e]
  exact body_start m c

/-! ## In and out -/

/-- What the launch hands a device is what the device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Hv⟩, Hlev, Hcr, -, HG⟩
  ihave Hc := (creds (F := F) c) $$ Hcr
  imodintro
  unfold start arrays whole
  isplitl
  · isplitl [HG]; · iexact HG
    isplitl [Hc]; · iexact Hc
    isplitl [Hlev]; · iexact Hlev
    isplitl [Hx]; · iexact Hx
    isplitl [Hw]; · iexact Hw
    iexists _; iexact Hv
  · iempintro

omit [FloatOps F] in
/-- The buffers that live as long as the kernel are the scratch buffers. -/
theorem scopedRest_eq (c : Dev nD) : (Pipeline.scopedRest (Ix := Unit) (Name := ℕ) (U := UU) (Lvl := ℕ) (Val := Elt F) cfg0.spec c : sProp 𝕄) = scratches c :=
  scopedRest0_eq c

/-- What a device is given at the launch is what its run starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl, scopedRest_eq]
  iintro ⟨Hs, -, Hr⟩
  isplitl [Hs]
  · iexact Hs
  · iexact Hr

/-- What a device ends with for the state to be read from. -/
def fin (c : Dev nD) : sProp 𝕄 :=
  iprop(unscopedSems0 c ∗ whole c main_arg0 (m ((c : Thread nD τ).loc main_arg0)) ∗ whole c main_arg1 (m ((c : Thread nD τ).loc main_arg1)) ∗ whole c main_v1 (YF m c))

/-- What a device's run leaves is what the launch takes back. -/
theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = End m c from rfl, scopedRest_eq, ownSems0_eq, over_sems fun g => semVal g 0]
  unfold fin End scratches
  rw [unscopedSems0_eq]
  iintro ⟨Hx, Hw, Hv, Hs, Hz, Hb⟩
  isplitl [Hx Hw Hv Hb]
  · isplitl [Hb]; · iexact Hb
    isplitl [Hx]; · iexact Hx
    isplitl [Hw]
    · iexact Hw
    · iexact Hv
  isplitl [Hz]
  · iexact Hz
  · iexact Hs

/-- The kernel has no windows, so no wait for one needs a level. -/
theorem waits (c : Dev nD) : (levAts L lv : sProp 𝕄) ⊢ Pipeline.cellsWaits cfgs (dats m) () 0 c :=
  Pipeline.cellsWaits_intro cfgs (dats m) () 0 c fun w s t => w.elim0

/-- The kernel has no windows, so every window is held whole. -/
theorem share_eq (c : Dev nD) (w : Fin cfg0.W) : (dats m 0 c).share w = fullShare := w.elim0

/-! ## The run -/

omit [FloatOps F] in
/-- A buffer held whole is what the memory has there. -/
theorem read_one {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr [HSI]
  · ipureintro; exact Buf.eq_of_forall_mem_univ h
  · iexact HSI

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = YF m c

/-- What a device holds at the end says what its memory holds. -/
theorem read_fin (c : Dev nD) (s' : Phys nD τ sig (Elt F)) :
    iprop(fin m c ∗ emp ∗ SI s') ⊢ |={Set.univ}=> iprop(⌜QY m c s'.mem⌝ ∗ SI s') := by
  unfold fin whole
  iintro ⟨⟨Hu, Hx, Hw, Hv⟩, -, HSI⟩
  ihave H := (read_one (F := F) (m ((c : Thread nD τ).loc main_arg0)) s') $$ [Hx HSI]
  · isplitl [Hx]
    · iexact Hx
    · iexact HSI
  icases H with ⟨%hx, HSI⟩
  ihave H := (read_one (F := F) (m ((c : Thread nD τ).loc main_arg1)) s') $$ [Hw HSI]
  · isplitl [Hw]
    · iexact Hw
    · iexact HSI
  icases H with ⟨%hw, HSI⟩
  ihave H := (read_one (F := F) (ℓ := (c : Thread nD τ).loc main_v1) (YF m c) s') $$ [Hv HSI]
  · isplitl [Hv]
    · iexact Hv
    · iexact HSI
  icases H with ⟨%hv, HSI⟩
  imod (Pipeline.unscopedSems0_read (X := unscopedSems0 c) (c := c) fupd_intro s') $$ [Hu HSI] with ⟨%hs, HSI⟩
  · isplitl [Hu]
    · iexact Hu
    · iexact HSI
  imodintro
  isplitr [HSI]
  · ipureintro; exact ⟨hs, hx, hw, hv⟩
  · iexact HSI

set_option maxRecDepth 8000 in
/-- Every weakly fair execution of the kernel on the sixteen devices ends, nothing faulting; at its end every device's
    arguments are as they were, its result is `YF`, and every semaphore counts zero. -/
theorem run_main : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = YF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := QY m) (hY := read_fin m)
    (hQ := fun _ h hs => ⟨fun c => (h c).2.2.2, sem_eq_zero hs fun c => (h c).2.2.1⟩)

end Cert.KernelIdeal.Gather

end

end
-- ==== Proof.Value.lean ====
/-
# The value

With exact arithmetic both programs are one function of the entries of one product: at row `r` and column `s` the sum
over `k` of `x r k * w k s`, put through the tanh form of the GELU. The kernel multiplies the cube's three factors in
another order, and adds the product to a zero; the rest is which rows and columns a device's block holds.
-/
module

public import proofs.«01_k».proof.Proof.KernelIdeal.Proto
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.GatherValue

open Idealize.ShloMosaic Idealize.ShloMosaic.TcCoe Idealize.ShloMosaic.ValueIdx

/-! ## The GELU of one number -/

/-- The kernel's GELU of one number. -/
def geluK (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * y * y * y)))
/-- The reference's GELU of one number. -/
def geluR (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))
/-- The two differ in the order of three factors only. -/
theorem gelu_eq (y : EReal) : geluK y = geluR y := by
  unfold geluK geluR
  rw [mul_assoc (Ideal.ofBits .f32 0x3D372713#32) y y, mul_assoc (Ideal.ofBits .f32 0x3D372713#32) (y * y) y]

/-! ## The reference -/

section Reference
open Cert.ReferenceIdeal Cert.ReferenceIdeal.Gen

/-- The reference's result as its operations compose it. -/
def refVal (x w : FVec Ideal S1024x1024 .f32) : FVec Ideal S1024x1024 .f32 :=
  mulf (mulf (broadcastInDim S1024x1024 ![] bcast_S_S1024x1024 (constant S_ .f32 0x3F000000#32)) (Host.dotGeneral dot_S1024x1024_S1024x1024_S1024x1024_1_0_0_1_n_n none x w)) (addf (broadcastInDim S1024x1024 ![] bcast_S_S1024x1024 (constant S_ .f32 0x3F800000#32)) (Host.tanh (mulf (broadcastInDim S1024x1024 ![] bcast_S_S1024x1024 (constant S_ .f32 0x3F4C422A#32)) (addf (Host.dotGeneral dot_S1024x1024_S1024x1024_S1024x1024_1_0_0_1_n_n none x w) (mulf (broadcastInDim S1024x1024 ![] bcast_S_S1024x1024 (constant S_ .f32 0x3D372713#32)) (mulf (mulf (Host.dotGeneral dot_S1024x1024_S1024x1024_S1024x1024_1_0_0_1_n_n none x w) (Host.dotGeneral dot_S1024x1024_S1024x1024_S1024x1024_1_0_0_1_n_n none x w)) (Host.dotGeneral dot_S1024x1024_S1024x1024_S1024x1024_1_0_0_1_n_n none x w)))))))

/-- The reference's product at one place: a sum over the contracted dimension. -/
theorem ref_dot (x w : FVec Ideal S1024x1024 .f32) (r s : Fin 1024) :
    Host.dotGeneral dot_S1024x1024_S1024x1024_S1024x1024_1_0_0_1_n_n none x w (ix2 r s) = ∑ k : Fin 1024, x (ix2 r k) * w (ix2 k s) :=
  StackMember.dotGeneral_plain_apply none x w r s

/-- The reference's result at an index. -/
theorem ref_at (x w : FVec Ideal S1024x1024 .f32) (r s : Fin 1024) :
    refVal x w (ix2 r s) = geluR (∑ k : Fin 1024, x (ix2 r k) * w (ix2 k s)) := by
  rw [← ref_dot]; rfl
end Reference

/-! ## The kernel -/

section Kernel
open Cert.KernelIdeal Cert.KernelIdeal.Gen Cert.KernelIdeal.Gather

/-- The kernel's product of two blocks at one place: a sum over the contracted dimension. -/
theorem ker_dot (a : FVec Ideal S64x1024 .bf16) (b : FVec Ideal S1024x64 .bf16) (r s : Fin 64) :
    matmul dot_S64x1024_S1024x64_S64x64_1_0_0_1_n_n none a b (constant S64x64 .f32 0x00000000#32) (ix2 r s)
      = ∑ k : Fin 1024, a (ix2 r k) * b (ix2 k s) := by
  refine (Ideal.matmul_plain_apply none a b (constant S64x64 .f32 0x00000000#32) r s).trans ?_
  rw [show (constant S64x64 .f32 0x00000000#32 : FVec Ideal S64x64 .f32) (ix2 r s) = 0 from Ideal.ofBits_zero_f32, zero_add]

/-- What the kernel stores at one place: the GELU of its product there. -/
theorem ker_gelu (a : FVec Ideal S64x1024 .bf16) (b : FVec Ideal S1024x64 .bf16) (r s : Fin 64) :
    k0_pay7 (F := Ideal) a b (ix2 r s) = geluK (matmul dot_S64x1024_S1024x64_S64x64_1_0_0_1_n_n none a b (constant S64x64 .f32 0x00000000#32) (ix2 r s)) := by
  unfold k0_pay7
  simp only [shapeCast_self]
  rfl

/-- One block of rows of a device's result at an index. -/
theorem ker_at (a : FVec Ideal S64x1024 .bf16) (b : FVec Ideal S1024x64 .bf16) (r s : Fin 64) :
    k0_pay7 (F := Ideal) a b (ix2 r s) = geluR (∑ k : Fin 1024, a (ix2 r k) * b (ix2 k s)) := by
  rw [ker_gelu, ker_dot, gelu_eq]

/-- Rounding does nothing to exact numbers. -/
theorem pay1_id (x : FVec Ideal S64x1024 .f32) : k0_pay1 (F := Ideal) x = x := by
  unfold k0_pay1; simp only [shapeCast_self]; rfl
/-- With exact arithmetic, rounding the right operand leaves it as it is. -/
theorem pay2_id (w : FVec Ideal S1024x64 .f32) : k0_pay2 (F := Ideal) w = w := by
  unfold k0_pay2; simp only [shapeCast_self]; rfl

variable (m : (ℓ : Loc nD τ sig) → Buf (Elt Ideal) ℓ) (x w : FVec Ideal ⟨2, ![1024, 1024]⟩ .f32)

/-- **A device's result is its block of columns of the reference's.** -/
theorem value_eq (hx : ∀ c : Dev nD, m ((c.tc : Thread nD τ).loc main_arg0) = Layout.block ⟨2, ![64, 1024]⟩ ⟨2, ![1024, 1024]⟩ 0 16 c x)
    (hw : ∀ c : Dev nD, m ((c.tc : Thread nD τ).loc main_arg1) = Layout.block ⟨2, ![1024, 64]⟩ ⟨2, ![1024, 1024]⟩ 1 16 c w) (c : Dev nD) :
    YF m c = Layout.block ⟨2, ![1024, 64]⟩ ⟨2, ![1024, 1024]⟩ 1 16 c (refVal x w) := by
  funext i
  obtain ⟨r, s, rfl⟩ : ∃ (r : Fin 1024) (s : Fin 64), i = ix2 r s := ⟨i 0, i 1, eq_ix2 i⟩
  have hc : c.val < 16 := c.isLt
  have hr : r.val / 64 < 16 := by have := r.isLt; omega
  have hs : c.val * 64 + s.val < 1024 := by have := s.isLt; omega
  have el : YF m c (ix2 r s) = k0_pay7 (xb m (⟨r.val / 64, hr⟩ : Fin 16)) (wb m c) (ix2 (⟨r.val % 64, Nat.mod_lt _ (by decide)⟩ : Fin 64) s) := by
    unfold YF stack yb
    refine congrArg (k0_pay7 (xb m _) (wb m c)) ?_
    funext a
    match a with
    | 0 => rfl
    | 1 => rfl
  have er : Layout.block ⟨2, ![1024, 64]⟩ ⟨2, ![1024, 1024]⟩ 1 16 c (refVal x w) (by decide) (ix2 r s) = refVal x w (ix2 r (⟨c.val * 64 + s.val, hs⟩ : Fin 1024)) := by
    rw [Layout.block_apply]
    refine congrArg (refVal x w) ?_
    funext a
    match a with
    | 0 => exact Fin.ext rfl
    | 1 => exact Fin.ext rfl
  rw [el, er, ker_at, ref_at]
  refine congrArg geluR (Finset.sum_congr rfl fun k _ => ?_)
  have ex : xb m (⟨r.val / 64, hr⟩ : Fin 16) (ix2 (⟨r.val % 64, Nat.mod_lt _ (by decide)⟩ : Fin 64) k) = x (ix2 r k) := by
    unfold xb
    rw [pay1_id, show m _ = _ from hx ⟨r.val / 64, hr⟩]
    rw [Layout.block_apply]
    refine congrArg x ?_
    funext a
    match a with
    | 0 => exact Fin.ext (by show r.val / 64 * 64 + r.val % 64 = r.val; omega)
    | 1 => exact Fin.ext rfl
  have ew : wb m c (ix2 k s) = w (ix2 k (⟨c.val * 64 + s.val, hs⟩ : Fin 1024)) := by
    unfold wb
    rw [pay2_id, show m _ = _ from hw c]
    rw [Layout.block_apply]
    refine congrArg w ?_
    funext a
    match a with
    | 0 => exact Fin.ext rfl
    | 1 => exact Fin.ext rfl
  rw [ex, ew]
end Kernel

end Cert.GatherValue

end

end
-- ==== Proof.lean ====
/-
# The five claims

The kernel as printed and read with exact arithmetic runs to its end on the sixteen devices with its arguments unchanged
and every semaphore at zero; so does the reference; and with exact arithmetic every device's result is its block of
columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed: its arguments unchanged, every semaphore at zero. -/
theorem kernel_ends : Cert.quiescent_Kernel (hKernel := Cert.Kernel.Gen.facts) := fun m g _ =>
  (θ_run _ _ _).mono (fun _ h => ⟨fun c => ⟨(h.1 c).1, (h.1 c).2.1⟩, h.2⟩) (Cert.Kernel.Gather.run_main m g)

/-- The kernel with exact arithmetic: the same. -/
theorem kernelIdeal_ends : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Gather.run_main m g)

/-- The reference: the same; it has no semaphore. -/
theorem reference_ends : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- With exact arithmetic every device's result is its block of columns of the reference's. -/
theorem same_value : Cert.algebraic_KernelIdeal_ReferenceIdeal (hKernelIdeal := Cert.KernelIdeal.Gen.facts) (hReferenceIdeal := Cert.ReferenceIdeal.Gen.facts) :=
  fun m g m' g' _ hm =>
    ⟨Cert.GatherValue.refVal (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ h c => ⟨((h.1 c).2.2).trans (Cert.GatherValue.value_eq m _ _ (fun c => (hm c).1) (fun c => (hm c).2) c), (h.1 c).1, (h.1 c).2.1⟩)
        (Cert.KernelIdeal.Gather.run_main m g),
      (θ_run _ _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  kernel_ends, kernelIdeal_ends, reference_ends, trivial, same_value⟩

end Cert.Proof

end
